-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 4096]⟩ ⟨3, ![2, 8192, 4096]⟩ (Layout.meshBlock [2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 4096]⟩ ⟨2, ![8192, 4096]⟩ (Layout.meshBlock [2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x4096 : Shape := ⟨3, ![1, 8192, 4096]⟩
abbrev S4096 : Shape := ⟨1, ![4096]⟩
abbrev S4096x4096 : Shape := ⟨2, ![4096, 4096]⟩
abbrev S2048x4096 : Shape := ⟨2, ![2048, 4096]⟩
abbrev S2x128x4096 : Shape := ⟨3, ![2, 128, 4096]⟩
abbrev S16 : Shape := ⟨1, ![16]⟩
abbrev S2 : Shape := ⟨1, ![2]⟩
abbrev S_ : Shape := ⟨0, ![]⟩
abbrev S1 : Shape := ⟨1, ![1]⟩
abbrev S1x128x4096 : Shape := ⟨3, ![1, 128, 4096]⟩
abbrev S128x4096 : Shape := ⟨2, ![128, 4096]⟩
abbrev S128 : Shape := ⟨1, ![128]⟩
abbrev S128x1 : Shape := ⟨2, ![128, 1]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S1x8192x4096, .f32⟩
  | .hbm, ⟨1, _⟩ => ⟨S4096, .f32⟩
  | .hbm, ⟨2, _⟩ => ⟨S4096x4096, .f32⟩
  | .local _ .vmem, ⟨0, _⟩ => ⟨S4096, .f32⟩
  | .local _ .vmem, ⟨1, _⟩ => ⟨S4096x4096, .bf16⟩
  | .local _ .vmem, ⟨2, _⟩ => ⟨S2048x4096, .bf16⟩
  | .local _ .vmem, ⟨3, _⟩ => ⟨S2x128x4096, .f32⟩
  | .local _ .vmem, ⟨4, _⟩ => ⟨S2x128x4096, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) (c0_i32_13 : BitVec 32) : Fin 3 → Nat :=
  let c0_i32_14 : BitVec 32 := 0#32
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : BitVec 32 := Scalar.subi c1_i32_12 v5
  let c4096_i32 : BitVec 32 := 4096#32
  let v18 : BitVec 32 := Scalar.muli v17 c4096_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v19 : BitVec 32 := Scalar.muli v2 c2048_i32
  let v20 : BitVec 32 := Scalar.addi v18 v19
  let v21 : BitVec 32 := Scalar.addi v20 c0_i32_13
  let c0_i32_19 : BitVec 32 := 0#32
  ![0, v21.toNat, 0]
def k0_off2 (d0 : Dev nD) (c0_i32_37 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_36 : BitVec 32 := 2048#32
  let v47 : BitVec 32 := Scalar.muli v2 c2048_i32_36
  let v48 : BitVec 32 := Scalar.addi v47 c0_i32_37
  let c0_i32_43 : BitVec 32 := 0#32
  ![v48.toNat, 0]
def k0_dev3 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v49 : BitVec 32 := Scalar.muli v2 c2_i32_40
  let v50 : BitVec 32 := Scalar.addi c0_i32_41 v49
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_42 : BitVec 32 := 1#32
  let v51 : BitVec 32 := Scalar.muli v6 c1_i32_42
  let v52 : BitVec 32 := Scalar.addi v50 v51
  v52.toNat
def k0_dev4 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v80 : BitVec 32 := Scalar.muli v2 c2_i32_65
  let v81 : BitVec 32 := Scalar.addi c0_i32_66 v80
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v82 : BitVec 32 := Scalar.muli v6 c1_i32_67
  let v83 : BitVec 32 := Scalar.addi v81 v82
  v83.toNat
def k0_dev5 (d0 : Dev nD) : Nat :=
  let c0_i32_92 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_91 : BitVec 32 := 2#32
  let v111 : BitVec 32 := Scalar.muli v2 c2_i32_91
  let v112 : BitVec 32 := Scalar.addi c0_i32_92 v111
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_93 : BitVec 32 := 1#32
  let v113 : BitVec 32 := Scalar.muli v6 c1_i32_93
  let v114 : BitVec 32 := Scalar.addi v112 v113
  v114.toNat
def k0_dev6 (d0 : Dev nD) : Nat :=
  let c0_i32_117 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_116 : BitVec 32 := 2#32
  let v142 : BitVec 32 := Scalar.muli v2 c2_i32_116
  let v143 : BitVec 32 := Scalar.addi c0_i32_117 v142
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_118 : BitVec 32 := 1#32
  let v144 : BitVec 32 := Scalar.muli v6 c1_i32_118
  let v145 : BitVec 32 := Scalar.addi v143 v144
  v145.toNat
def k0_dev7 (d0 : Dev nD) : Nat :=
  let c0_i32_142 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_141 : BitVec 32 := 2#32
  let v173 : BitVec 32 := Scalar.muli v2 c2_i32_141
  let v174 : BitVec 32 := Scalar.addi c0_i32_142 v173
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_143 : BitVec 32 := 1#32
  let v175 : BitVec 32 := Scalar.muli v6 c1_i32_143
  let v176 : BitVec 32 := Scalar.addi v174 v175
  v176.toNat
def k0_dev8 (d0 : Dev nD) : Nat :=
  let c0_i32_167 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_166 : BitVec 32 := 2#32
  let v204 : BitVec 32 := Scalar.muli v2 c2_i32_166
  let v205 : BitVec 32 := Scalar.addi c0_i32_167 v204
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_168 : BitVec 32 := 1#32
  let v206 : BitVec 32 := Scalar.muli v6 c1_i32_168
  let v207 : BitVec 32 := Scalar.addi v205 v206
  v207.toNat
def k0_dev9 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_191 : BitVec 32 := 2#32
  let v235 : BitVec 32 := Scalar.muli v2 c2_i32_191
  let v236 : BitVec 32 := Scalar.addi c0_i32_192 v235
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_193 : BitVec 32 := 1#32
  let v237 : BitVec 32 := Scalar.muli v6 c1_i32_193
  let v238 : BitVec 32 := Scalar.addi v236 v237
  v238.toNat
def k0_dev10 (d0 : Dev nD) : Nat :=
  let c0_i32_217 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_216 : BitVec 32 := 2#32
  let v266 : BitVec 32 := Scalar.muli v2 c2_i32_216
  let v267 : BitVec 32 := Scalar.addi c0_i32_217 v266
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_218 : BitVec 32 := 1#32
  let v268 : BitVec 32 := Scalar.muli v6 c1_i32_218
  let v269 : BitVec 32 := Scalar.addi v267 v268
  v269.toNat
def k0_dev11 (d0 : Dev nD) : Nat :=
  let c0_i32_242 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_241 : BitVec 32 := 2#32
  let v297 : BitVec 32 := Scalar.muli v2 c2_i32_241
  let v298 : BitVec 32 := Scalar.addi c0_i32_242 v297
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_243 : BitVec 32 := 1#32
  let v299 : BitVec 32 := Scalar.muli v6 c1_i32_243
  let v300 : BitVec 32 := Scalar.addi v298 v299
  v300.toNat
def k0_dev12 (d0 : Dev nD) : Nat :=
  let c0_i32_267 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_266 : BitVec 32 := 2#32
  let v328 : BitVec 32 := Scalar.muli v2 c2_i32_266
  let v329 : BitVec 32 := Scalar.addi c0_i32_267 v328
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_268 : BitVec 32 := 1#32
  let v330 : BitVec 32 := Scalar.muli v6 c1_i32_268
  let v331 : BitVec 32 := Scalar.addi v329 v330
  v331.toNat
def k0_dev13 (d0 : Dev nD) : Nat :=
  let c0_i32_292 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_291 : BitVec 32 := 2#32
  let v359 : BitVec 32 := Scalar.muli v2 c2_i32_291
  let v360 : BitVec 32 := Scalar.addi c0_i32_292 v359
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_293 : BitVec 32 := 1#32
  let v361 : BitVec 32 := Scalar.muli v6 c1_i32_293
  let v362 : BitVec 32 := Scalar.addi v360 v361
  v362.toNat
def k0_dev14 (d0 : Dev nD) : Nat :=
  let c0_i32_317 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_316 : BitVec 32 := 2#32
  let v390 : BitVec 32 := Scalar.muli v2 c2_i32_316
  let v391 : BitVec 32 := Scalar.addi c0_i32_317 v390
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_318 : BitVec 32 := 1#32
  let v392 : BitVec 32 := Scalar.muli v6 c1_i32_318
  let v393 : BitVec 32 := Scalar.addi v391 v392
  v393.toNat
def k0_dev15 (d0 : Dev nD) : Nat :=
  let c0_i32_342 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_341 : BitVec 32 := 2#32
  let v421 : BitVec 32 := Scalar.muli v2 c2_i32_341
  let v422 : BitVec 32 := Scalar.addi c0_i32_342 v421
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_343 : BitVec 32 := 1#32
  let v423 : BitVec 32 := Scalar.muli v6 c1_i32_343
  let v424 : BitVec 32 := Scalar.addi v422 v423
  v424.toNat
def k0_dev16 (d0 : Dev nD) : Nat :=
  let c0_i32_367 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_366 : BitVec 32 := 2#32
  let v452 : BitVec 32 := Scalar.muli v2 c2_i32_366
  let v453 : BitVec 32 := Scalar.addi c0_i32_367 v452
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_368 : BitVec 32 := 1#32
  let v454 : BitVec 32 := Scalar.muli v6 c1_i32_368
  let v455 : BitVec 32 := Scalar.addi v453 v454
  v455.toNat
def k0_dev17 (d0 : Dev nD) : Nat :=
  let c0_i32_392 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_391 : BitVec 32 := 2#32
  let v483 : BitVec 32 := Scalar.muli v2 c2_i32_391
  let v484 : BitVec 32 := Scalar.addi c0_i32_392 v483
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_393 : BitVec 32 := 1#32
  let v485 : BitVec 32 := Scalar.muli v6 c1_i32_393
  let v486 : BitVec 32 := Scalar.addi v484 v485
  v486.toNat
def k0_dev18 (d0 : Dev nD) : Nat :=
  let c0_i32_411 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_410 : BitVec 32 := 2#32
  let v507 : BitVec 32 := Scalar.muli v2 c2_i32_410
  let v508 : BitVec 32 := Scalar.addi c0_i32_411 v507
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_412 : BitVec 32 := 1#32
  let v509 : BitVec 32 := Scalar.muli v6 c1_i32_412
  let v510 : BitVec 32 := Scalar.addi v508 v509
  v510.toNat
def k0_off3 (d0 : Dev nD) (c0_i32_418 : BitVec 32) : Fin 3 → Nat :=
  let c0_i32_419 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_416 : BitVec 32 := 4096#32
  let v517 : BitVec 32 := Scalar.muli v5 c4096_i32_416
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_417 : BitVec 32 := 2048#32
  let v518 : BitVec 32 := Scalar.muli v2 c2048_i32_417
  let v519 : BitVec 32 := Scalar.addi v518 c0_i32_418
  let v520 : BitVec 32 := Scalar.addi v517 v519
  let c0_i32_424 : BitVec 32 := 0#32
  ![0, v520.toNat, 0]
def k0_dev19 (d0 : Dev nD) : Nat :=
  let c0_i32_449 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_448 : BitVec 32 := 2#32
  let v549 : BitVec 32 := Scalar.muli v7 c2_i32_448
  let v550 : BitVec 32 := Scalar.addi c0_i32_449 v549
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_450 : BitVec 32 := 1#32
  let v551 : BitVec 32 := Scalar.muli v5 c1_i32_450
  let v552 : BitVec 32 := Scalar.addi v550 v551
  v552.toNat
def k0_off4 (d0 : Dev nD) (c0_i32_463 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32_462 : BitVec 32 := 2048#32
  let v567 : BitVec 32 := Scalar.muli v2 c2048_i32_462
  let v568 : BitVec 32 := Scalar.addi v567 c0_i32_463
  let v569 : Index := Scalar.indexCast v568
  let c0_464 : Index := 0#32
  ![v569.toNat, 0]
def k0_off5 (d0 : Dev nD) (c0_i32_481 : BitVec 32) : Fin 3 → Nat :=
  let c0_i32_482 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_478 : BitVec 32 := 4096#32
  let v598 : BitVec 32 := Scalar.muli v5 c4096_i32_478
  let c1_i32_479 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v599 : BitVec 32 := Scalar.subi c1_i32_479 v2
  let c2048_i32_480 : BitVec 32 := 2048#32
  let v600 : BitVec 32 := Scalar.muli v599 c2048_i32_480
  let v601 : BitVec 32 := Scalar.addi v600 c0_i32_481
  let v602 : BitVec 32 := Scalar.addi v598 v601
  let c0_i32_487 : BitVec 32 := 0#32
  ![0, v602.toNat, 0]
def k0_dev20 (d0 : Dev nD) : Nat :=
  let c0_i32_503 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_502 : BitVec 32 := 2#32
  let v621 : BitVec 32 := Scalar.muli v7 c2_i32_502
  let v622 : BitVec 32 := Scalar.addi c0_i32_503 v621
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_504 : BitVec 32 := 1#32
  let v623 : BitVec 32 := Scalar.muli v5 c1_i32_504
  let v624 : BitVec 32 := Scalar.addi v622 v623
  v624.toNat
def k0_off6 (d0 : Dev nD) (c0_i32_560 : BitVec 32) : Fin 2 → Nat :=
  let c1_i32_558 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v696 : BitVec 32 := Scalar.subi c1_i32_558 v2
  let c2048_i32_559 : BitVec 32 := 2048#32
  let v697 : BitVec 32 := Scalar.muli v696 c2048_i32_559
  let v698 : BitVec 32 := Scalar.addi v697 c0_i32_560
  let v699 : Index := Scalar.indexCast v698
  let c0_561 : Index := 0#32
  ![v699.toNat, 0]
def k0_off7 (d0 : Dev nD) (c0_i32_576 : BitVec 32) : Fin 2 → Nat :=
  let c1_i32_574 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v726 : BitVec 32 := Scalar.subi c1_i32_574 v2
  let c2048_i32_575 : BitVec 32 := 2048#32
  let v727 : BitVec 32 := Scalar.muli v726 c2048_i32_575
  let v728 : BitVec 32 := Scalar.addi v727 c0_i32_576
  let c0_i32_579 : BitVec 32 := 0#32
  ![v728.toNat, 0]
def k0_dev21 (d0 : Dev nD) : Nat :=
  let c0_i32_607 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_606 : BitVec 32 := 2#32
  let v757 : BitVec 32 := Scalar.muli v7 c2_i32_606
  let v758 : BitVec 32 := Scalar.addi c0_i32_607 v757
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_608 : BitVec 32 := 1#32
  let v759 : BitVec 32 := Scalar.muli v5 c1_i32_608
  let v760 : BitVec 32 := Scalar.addi v758 v759
  v760.toNat
def k0_dev22 (d0 : Dev nD) : Nat :=
  let c0_i32_716 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_715 : BitVec 32 := 2#32
  let v898 : BitVec 32 := Scalar.muli v7 c2_i32_715
  let v899 : BitVec 32 := Scalar.addi c0_i32_716 v898
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_717 : BitVec 32 := 1#32
  let v900 : BitVec 32 := Scalar.muli v5 c1_i32_717
  let v901 : BitVec 32 := Scalar.addi v899 v900
  v901.toNat
def k0_dev23 (d0 : Dev nD) : Nat :=
  let c0_i32_825 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_824 : BitVec 32 := 2#32
  let v1039 : BitVec 32 := Scalar.muli v7 c2_i32_824
  let v1040 : BitVec 32 := Scalar.addi c0_i32_825 v1039
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_826 : BitVec 32 := 1#32
  let v1041 : BitVec 32 := Scalar.muli v5 c1_i32_826
  let v1042 : BitVec 32 := Scalar.addi v1040 v1041
  v1042.toNat
def k0_dev24 (d0 : Dev nD) : Nat :=
  let c0_i32_934 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_933 : BitVec 32 := 2#32
  let v1180 : BitVec 32 := Scalar.muli v7 c2_i32_933
  let v1181 : BitVec 32 := Scalar.addi c0_i32_934 v1180
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_935 : BitVec 32 := 1#32
  let v1182 : BitVec 32 := Scalar.muli v5 c1_i32_935
  let v1183 : BitVec 32 := Scalar.addi v1181 v1182
  v1183.toNat
def k0_dev25 (d0 : Dev nD) : Nat :=
  let c0_i32_1043 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1042 : BitVec 32 := 2#32
  let v1321 : BitVec 32 := Scalar.muli v7 c2_i32_1042
  let v1322 : BitVec 32 := Scalar.addi c0_i32_1043 v1321
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1044 : BitVec 32 := 1#32
  let v1323 : BitVec 32 := Scalar.muli v5 c1_i32_1044
  let v1324 : BitVec 32 := Scalar.addi v1322 v1323
  v1324.toNat
def k0_dev26 (d0 : Dev nD) : Nat :=
  let c0_i32_1152 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1151 : BitVec 32 := 2#32
  let v1462 : BitVec 32 := Scalar.muli v7 c2_i32_1151
  let v1463 : BitVec 32 := Scalar.addi c0_i32_1152 v1462
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1153 : BitVec 32 := 1#32
  let v1464 : BitVec 32 := Scalar.muli v5 c1_i32_1153
  let v1465 : BitVec 32 := Scalar.addi v1463 v1464
  v1465.toNat
def k0_dev27 (d0 : Dev nD) : Nat :=
  let c0_i32_1261 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1260 : BitVec 32 := 2#32
  let v1603 : BitVec 32 := Scalar.muli v7 c2_i32_1260
  let v1604 : BitVec 32 := Scalar.addi c0_i32_1261 v1603
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1262 : BitVec 32 := 1#32
  let v1605 : BitVec 32 := Scalar.muli v5 c1_i32_1262
  let v1606 : BitVec 32 := Scalar.addi v1604 v1605
  v1606.toNat
def k0_dev28 (d0 : Dev nD) : Nat :=
  let c0_i32_1370 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1369 : BitVec 32 := 2#32
  let v1744 : BitVec 32 := Scalar.muli v7 c2_i32_1369
  let v1745 : BitVec 32 := Scalar.addi c0_i32_1370 v1744
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1371 : BitVec 32 := 1#32
  let v1746 : BitVec 32 := Scalar.muli v5 c1_i32_1371
  let v1747 : BitVec 32 := Scalar.addi v1745 v1746
  v1747.toNat
def k0_dev29 (d0 : Dev nD) : Nat :=
  let c0_i32_1479 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1478 : BitVec 32 := 2#32
  let v1885 : BitVec 32 := Scalar.muli v7 c2_i32_1478
  let v1886 : BitVec 32 := Scalar.addi c0_i32_1479 v1885
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1480 : BitVec 32 := 1#32
  let v1887 : BitVec 32 := Scalar.muli v5 c1_i32_1480
  let v1888 : BitVec 32 := Scalar.addi v1886 v1887
  v1888.toNat
def k0_dev30 (d0 : Dev nD) : Nat :=
  let c0_i32_1588 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1587 : BitVec 32 := 2#32
  let v2026 : BitVec 32 := Scalar.muli v7 c2_i32_1587
  let v2027 : BitVec 32 := Scalar.addi c0_i32_1588 v2026
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1589 : BitVec 32 := 1#32
  let v2028 : BitVec 32 := Scalar.muli v5 c1_i32_1589
  let v2029 : BitVec 32 := Scalar.addi v2027 v2028
  v2029.toNat
def k0_dev31 (d0 : Dev nD) : Nat :=
  let c0_i32_1697 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1696 : BitVec 32 := 2#32
  let v2167 : BitVec 32 := Scalar.muli v7 c2_i32_1696
  let v2168 : BitVec 32 := Scalar.addi c0_i32_1697 v2167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1698 : BitVec 32 := 1#32
  let v2169 : BitVec 32 := Scalar.muli v5 c1_i32_1698
  let v2170 : BitVec 32 := Scalar.addi v2168 v2169
  v2170.toNat
def k0_dev32 (d0 : Dev nD) : Nat :=
  let c0_i32_1806 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1805 : BitVec 32 := 2#32
  let v2308 : BitVec 32 := Scalar.muli v7 c2_i32_1805
  let v2309 : BitVec 32 := Scalar.addi c0_i32_1806 v2308
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1807 : BitVec 32 := 1#32
  let v2310 : BitVec 32 := Scalar.muli v5 c1_i32_1807
  let v2311 : BitVec 32 := Scalar.addi v2309 v2310
  v2311.toNat
def k0_dev33 (d0 : Dev nD) : Nat :=
  let c0_i32_1915 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1914 : BitVec 32 := 2#32
  let v2449 : BitVec 32 := Scalar.muli v7 c2_i32_1914
  let v2450 : BitVec 32 := Scalar.addi c0_i32_1915 v2449
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1916 : BitVec 32 := 1#32
  let v2451 : BitVec 32 := Scalar.muli v5 c1_i32_1916
  let v2452 : BitVec 32 := Scalar.addi v2450 v2451
  v2452.toNat
def k0_dev34 (d0 : Dev nD) : Nat :=
  let c0_i32_2024 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2023 : BitVec 32 := 2#32
  let v2590 : BitVec 32 := Scalar.muli v7 c2_i32_2023
  let v2591 : BitVec 32 := Scalar.addi c0_i32_2024 v2590
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2025 : BitVec 32 := 1#32
  let v2592 : BitVec 32 := Scalar.muli v5 c1_i32_2025
  let v2593 : BitVec 32 := Scalar.addi v2591 v2592
  v2593.toNat
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x4096 : Shape := ⟨3, ![2, 8192, 4096]⟩
abbrev S4096 : Shape := ⟨1, ![4096]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Text.lean ====
/-
  The kernel's text regrouped. The printed body is one long run of operations; here the same operations are
  named by what they do to ONE chunk of 128 rows, with the chunk and the staging slot as parameters, and the whole
  body is loops of them. Each piece takes the program that follows it, so a piece's run is stated once, for every
  chunk, and the loops are composed by induction. `body_eq` says that the regrouping is the printed body.
-/
module

public import proofs.«01_k».proof.Proof.Gen.KernelIdeal.Frame

@[expose] public section

set_option maxRecDepth 16384

noncomputable section

namespace Cert.KernelIdeal.Rs

open Idealize.ShloMosaic Idealize.ShloMosaic.TcCoe
open Idealize.SL Idealize.SL.Sem
open Gen

variable {F : FTy → Type} [FloatOps F]

/-- A program of the kernel's body. -/
abbrev Pg (F : FTy → Type) : Type 1 := Prog (TpuEff nD τ sig (Elt F) Λ₀ .tc) PUnit

/-! ## Devices, chunks, slots and semaphores -/

/-- The device across the `y` axis, and the one across the `x` axis. -/
abbrev yn (d : Dev nD) : Dev nD := ⟨k0_dev1 d, k0_dev1_lt d⟩
abbrev xn (d : Dev nD) : Dev nD := ⟨k0_dev2 d, k0_dev2_lt d⟩

/-- The word for the first row of chunk `r` of a quarter. -/
abbrev chw (r : Fin 16) : BitVec 32 := BitVec.ofNat 32 (128 * r.val)

theorem slot_inb : ∀ (b : Fin 2) a, (![b.val, 0, 0] : Fin 3 → Nat) a + S1x128x4096.size a ≤ S2x128x4096.size a := by decide +kernel
theorem sem2_inb : ∀ (b : Fin 2) a, (![b.val] : Fin 1 → Nat) a + S1.size a ≤ S2.size a := by decide +kernel
theorem sem16_inb : ∀ (r : Fin 16) a, (![r.val] : Fin 1 → Nat) a + S1.size a ≤ S16.size a := by decide +kernel
theorem send_inb : ∀ (r : Fin 16) a, (![128 * r.val, 0] : Fin 2 → Nat) a + S128x4096.size a ≤ S2048x4096.size a := by decide +kernel
theorem send_packed : ∀ r : Fin 16, (Rect.unit (s := S2048x4096) ![128 * r.val, 0] S128x4096.size (send_inb r)).PackedRows (EltTy.packing .bf16) := by
  decide +kernel
theorem send_words : ∀ r : Fin 16, (Rect.unit (s := S2048x4096) ![128 * r.val, 0] S128x4096.size (send_inb r)).WholeWords (EltTy.packing .bf16) := by
  decide +kernel

/-- Slot `b` of the staging buffers, and of the output buffers. -/
abbrev slotR (b : Fin 2) : Rect S2x128x4096 := Rect.unit (s := S2x128x4096) ![b.val, 0, 0] S1x128x4096.size (slot_inb b)
abbrev stM (b : Fin 2) : Memref sig .tc .vmem S128x4096 .f32 :=
  ((Memref.whole cc0_scratch2).slice (slotR b) (fun _ => rfl)).squeeze S128x4096 squeezes_S1x128x4096_S128x4096
abbrev ouM (b : Fin 2) : Memref sig .tc .vmem S128x4096 .f32 :=
  ((Memref.whole cc0_scratch3).slice (slotR b) (fun _ => rfl)).squeeze S128x4096 squeezes_S1x128x4096_S128x4096
/-- 128 rows of the argument at the offsets `o`. -/
abbrev pM (o : Fin 3 → Nat) (h : ∀ a, o a + S1x128x4096.size a ≤ S1x8192x4096.size a) : Memref sig .tc .hbm S128x4096 .f32 :=
  ((Memref.whole main_arg0).slice (Rect.unit (s := S1x8192x4096) o S1x128x4096.size h) (fun _ => rfl)).squeeze S128x4096 squeezes_S1x128x4096_S128x4096
/-- 128 rows of the receive buffer, and of the result, at the offsets `o`. -/
abbrev rowR (o : Fin 2 → Nat) (h : ∀ a, o a + S128x4096.size a ≤ S4096x4096.size a) : Rect S4096x4096 :=
  Rect.unit (s := S4096x4096) o S128x4096.size h
abbrev rbM (o : Fin 2 → Nat) (h : ∀ a, o a + S128x4096.size a ≤ S4096x4096.size a) : Memref sig .tc .vmem S128x4096 .bf16 :=
  (Memref.whole cc0_scratch0).slice (rowR o h) (fun _ => rfl)
abbrev otM (o : Fin 2 → Nat) (h : ∀ a, o a + S128x4096.size a ≤ S4096x4096.size a) : Memref sig .tc .hbm S128x4096 .f32 :=
  (Memref.whole main_v1).slice (rowR o h) (fun _ => rfl)
/-- Chunk `r` of the send buffer. -/
abbrev sbR (r : Fin 16) : Rect S2048x4096 := Rect.unit (s := S2048x4096) ![128 * r.val, 0] S128x4096.size (send_inb r)
abbrev sbM (r : Fin 16) : Memref sig .tc .vmem S128x4096 .bf16 := (Memref.whole cc0_scratch1).slice (sbR r) (fun _ => rfl)
/-- The receive chunk `r` of the device's own quarter. -/
abbrev ownM (d : Dev nD) (r : Fin 16) : Memref sig .tc .vmem S128x4096 .bf16 := rbM (k0_off2 d (chw r)) (k0_off2_inb d r)

/-- One semaphore of an array of 16, and of 2. -/
abbrev sem16 (A : DmaSems sig S16) (r : Fin 16) : DmaSem sig :=
  ((A.slice (Rect.unit (s := S16) ![r.val] S1.size (sem16_inb r))).squeeze S_ squeezes_S1_S_).sem
abbrev sem2 (A : DmaSems sig S2) (b : Fin 2) : DmaSem sig :=
  ((A.slice (Rect.unit (s := S2) ![b.val] S1.size (sem2_inb b))).squeeze S_ squeezes_S1_S_).sem
abbrev sendY (r : Fin 16) : DmaSem sig := sem16 cc0_scratch4 r
abbrev recvY (r : Fin 16) : DmaSem sig := sem16 cc0_scratch5 r
abbrev sendX (r : Fin 16) : DmaSem sig := sem16 cc0_scratch6 r
abbrev recvX (r : Fin 16) : DmaSem sig := sem16 cc0_scratch7 r
abbrev inS (b : Fin 2) : DmaSem sig := sem2 cc0_scratch8 b
abbrev outS (b : Fin 2) : DmaSem sig := sem2 cc0_scratch9 b
/-- The barrier's semaphore. -/
abbrev barS : Sem sig := (SemArray.scalar (sig.barrier 0 rfl) : Sems sig S_).sem

/-! ## What the vector unit computes of a chunk -/

/-- A staged chunk narrowed for the send buffer. -/
def narrow (st : Vec F S1x128x4096 .f32) : FVec F S128x4096 .bf16 :=
  shapeCast S128x4096 (truncf .bf16 (shapeCast S128x4096 st shapeCasts_S1x128x4096_S128x4096) bitsLt_bf16_f32) shapeCasts_S128x4096_S128x4096

/-- The sum of a staged chunk and a received one. -/
def ysum (st : Vec F S1x128x4096 .f32) (rb : Vec F S128x4096 .bf16) : FVec F S128x4096 .f32 :=
  addf (shapeCast S128x4096 st shapeCasts_S1x128x4096_S128x4096) (extf .f32 rb bitsLt_bf16_f32)

/-- The root mean square's reciprocal, row by row. -/
def rms (y : FVec F S128x4096 .f32) : FVec F S128x1 .f32 :=
  rsqrt (addf (divf (shapeCast S128x1 (multiReduction .add [1] S128 (mulf y y) 0x00000000#32 reduces_S128x4096_S128 (.inl rfl) rfl) shapeCasts_S128_S128x1)
    (broadcast S128x1 (Scalar.ofBits .f32 0x45800000#32))) (broadcast S128x1 (Scalar.ofBits .f32 0x358637BD#32)))

/-- The normalised chunk times the scale. -/
def comp (st : Vec F S1x128x4096 .f32) (rb : Vec F S128x4096 .bf16) (g : Vec F S4096 .f32) : FVec F S1x128x4096 .f32 :=
  shapeCast S1x128x4096 (mulf (mulf (ysum st rb) (broadcastTo S128x4096 (rms (ysum st rb)) broadcasts_S128x1_S128x4096))
    (broadcastTo S128x4096 (shapeCast S1x4096 (shapeCast S4096 g shapeCasts_S4096_S4096) shapeCasts_S4096_S1x4096) broadcasts_S1x4096_S128x4096)) shapeCasts_S128x4096_S1x128x4096

/-! ## The pieces -/

/-- Start the load of 128 argument rows at `o` into slot `b`. -/
def ldStart (b : Fin 2) (o : Fin 3 → Nat) (h : ∀ a, o a + S1x128x4096.size a ≤ S1x8192x4096.size a) (k : Pg F) : Pg F :=
  .op (.enqueueDma (pM o h) (.here (stM b)) (.dma (inS b)) ((View.wordExact_bits rfl).reshape _ _) ((View.wordExact_bits rfl).reshape _ _) ⟨Or.inl rfl, trivial⟩) fun _ => k

/-- Wait for slot `b`'s load. -/
def ldWait (b : Fin 2) (o : Fin 3 → Nat) (h : ∀ a, o a + S1x128x4096.size a ≤ S1x8192x4096.size a) (k : Pg F) : Pg F :=
  .op (.waitDma2 (inS b) (pM o h) (stM b) ((View.wordExact_bits rfl).reshape _ _) ((View.wordExact_bits rfl).reshape _ _)) fun _ => k

/-- Narrow slot `b` into chunk `r` of the send buffer and send it across `y`. -/
def sendOne (d : Dev nD) (r : Fin 16) (b : Fin 2) (k : Pg F) : Pg F :=
  ldWait b (k0_off1 d (chw r)) (k0_off1_inb d r) <|
  .op (.load (Memref.whole cc0_scratch2) (slotR b).toLoadRect (View.loadsAt_vmem h_S1x128x4096)) fun st =>
  .op (.load (Memref.whole cc0_scratch1) (sbR r).toLoadRect (View.loadsAt_vmem h_S128x4096)) fun _ =>
  .op (.store (Memref.whole cc0_scratch1) (sbR r) (narrow st) Finset.univ
    (View.stores_vmem h_S128x4096 ((Memref.isWhole_whole _).storeExact_slice rfl _ (send_packed r)) (fun _ => rfl)) (.inl rfl)) fun _ =>
  .op (.enqueueDma (sbM r) (.remote (Dev.tc (yn d)) (ownM d r) (.dma (sendY r))) (.dma (recvY r))
    ((Memref.isWhole_whole _).wordExact_slice rfl _ (send_words r)) ((Memref.isWhole_whole _).wordExact_slice rfl _ (k0_off2_wordsbf16 d r))
    ⟨⟨rfl, Or.inl rfl⟩, trivial⟩) fun _ => k

/-- Wait for chunk `r` from across `y` and forward it across `x`. -/
def recvFwd (d : Dev nD) (r : Fin 16) (k : Pg F) : Pg F :=
  .op (.waitDma2 (recvY r) (sbM r) (ownM d r) ((Memref.isWhole_whole _).wordExact_slice rfl _ (send_words r))
    ((Memref.isWhole_whole _).wordExact_slice rfl _ (k0_off2_wordsbf16 d r))) fun _ =>
  .op (.enqueueDma (ownM d r) (.remote (Dev.tc (xn d)) (ownM d r) (.dma (sendX r))) (.dma (recvX r))
    ((Memref.isWhole_whole _).wordExact_slice rfl _ (k0_off2_wordsbf16 d r)) ((Memref.isWhole_whole _).wordExact_slice rfl _ (k0_off2_wordsbf16 d r))
    ⟨⟨rfl, Or.inl rfl⟩, trivial⟩) fun _ => k

/-- Wait for chunk `r` from across `x`. -/
def recvOther (d : Dev nD) (r : Fin 16) (k : Pg F) : Pg F :=
  .op (.waitDma2 (recvX r) (ownM d r) (ownM d r) ((Memref.isWhole_whole _).wordExact_slice rfl _ (k0_off2_wordsbf16 d r))
    ((Memref.isWhole_whole _).wordExact_slice rfl _ (k0_off2_wordsbf16 d r))) fun _ => k

/-- Wait for slot `b`'s copy to the result rows at `o`. -/
def outWait (b : Fin 2) (o : Fin 2 → Nat) (h : ∀ a, o a + S128x4096.size a ≤ S4096x4096.size a) (k : Pg F) : Pg F :=
  .op (.waitDma2 (outS b) (ouM b) (otM o h) ((View.wordExact_bits rfl).reshape _ _) (View.wordExact_bits rfl)) fun _ => k

/-- Normalise one chunk: the load waited for, the sum with the received rows at `ob`, `w` (the wait for the
    slot's earlier copy out, where there is one), the scaled chunk stored and its copy to the result rows at `oo` started. -/
def finish (gM : Memref sig .tc .vmem S4096 .f32) (b : Fin 2)
    (op : Fin 3 → Nat) (hp : ∀ a, op a + S1x128x4096.size a ≤ S1x8192x4096.size a)
    (ob : Fin 2 → Nat) (hb : ∀ a, ob a + S128x4096.size a ≤ S4096x4096.size a)
    (oo : Fin 2 → Nat) (ho : ∀ a, oo a + S128x4096.size a ≤ S4096x4096.size a)
    (w : Pg F → Pg F) (k : Pg F) : Pg F :=
  ldWait b op hp <|
  .op (.load (Memref.whole cc0_scratch2) (slotR b).toLoadRect (View.loadsAt_vmem h_S1x128x4096)) fun st =>
  .op (.load (Memref.whole cc0_scratch0) (rowR ob hb).toLoadRect (View.loadsAt_vmem h_S128x4096)) fun rb =>
  w <|
  .op (.load gM (Rect.unit (s := S4096) ![0] S4096.size inb_S4096_S4096_0).toLoadRect (View.loadsAt_vmem h_S4096)) fun g =>
  .op (.load (Memref.whole cc0_scratch3) (slotR b).toLoadRect (View.loadsAt_vmem h_S1x128x4096)) fun _ =>
  .op (.store (Memref.whole cc0_scratch3) (slotR b) (comp st rb g) Finset.univ (View.stores_vmem_bits_univ h_S1x128x4096 rfl) (.inl rfl)) fun _ =>
  .op (.enqueueDma (ouM b) (.here (otM oo ho)) (.dma (outS b)) ((View.wordExact_bits rfl).reshape _ _) (View.wordExact_bits rfl) ⟨Or.inl rfl, trivial⟩) fun _ => k

/-- Wait for the two sends of chunk `r` to have left. -/
def sentWait (d : Dev nD) (r : Fin 16) (k : Pg F) : Pg F :=
  .op (.waitDma2 (sendY r) (ownM d r) (sbM r) ((Memref.isWhole_whole _).wordExact_slice rfl _ (k0_off2_wordsbf16 d r))
    ((Memref.isWhole_whole _).wordExact_slice rfl _ (send_words r))) fun _ =>
  .op (.waitDma2 (sendX r) (ownM d r) (ownM d r) ((Memref.isWhole_whole _).wordExact_slice rfl _ (k0_off2_wordsbf16 d r))
    ((Memref.isWhole_whole _).wordExact_slice rfl _ (k0_off2_wordsbf16 d r))) fun _ => k

/-! ## The loops -/

/-- `f 0`, …, `f (n - 1)`, then `k`. -/
def rep (f : ℕ → Pg F → Pg F) : ℕ → Pg F → Pg F
  | 0, k => k
  | n + 1, k => rep f n (f n k)

/-- The chunk a loop counter names. -/
abbrev ck (n : ℕ) : Fin 16 := Fin.ofNat 16 n
/-- The slot a loop counter names. -/
abbrev sl (n : ℕ) : Fin 2 := Fin.ofNat 2 n

def ldS (d : Dev nD) (n : ℕ) (k : Pg F) : Pg F := ldStart (sl n) (k0_off1 d (chw (ck n))) (k0_off1_inb d (ck n)) k
def ldY (d : Dev nD) (b : Fin 2) (n : ℕ) (k : Pg F) : Pg F := ldStart b (k0_off3 d (chw (ck n))) (k0_off3_inb d (ck n)) k
def ldX (d : Dev nD) (b : Fin 2) (n : ℕ) (k : Pg F) : Pg F := ldStart b (k0_off5 d (chw (ck n))) (k0_off5_inb d (ck n)) k
def finY (gM : Memref sig .tc .vmem S4096 .f32) (d : Dev nD) (b : Fin 2) (r : Fin 16) (w : Pg F → Pg F) (k : Pg F) : Pg F :=
  finish gM b (k0_off3 d (chw r)) (k0_off3_inb d r) (k0_off4 d (chw r)) (k0_off4_inb d r) (k0_off2 d (chw r)) (k0_off2_inb d r) w k
def finX (gM : Memref sig .tc .vmem S4096 .f32) (d : Dev nD) (b : Fin 2) (r : Fin 16) (w : Pg F → Pg F) (k : Pg F) : Pg F :=
  finish gM b (k0_off5 d (chw r)) (k0_off5_inb d r) (k0_off6 d (chw r)) (k0_off6_inb d r) (k0_off7 d (chw r)) (k0_off7_inb d r) w k
def owY (d : Dev nD) (b : Fin 2) (n : ℕ) (k : Pg F) : Pg F := outWait b (k0_off2 d (chw (ck n))) (k0_off2_inb d (ck n)) k
def owX (d : Dev nD) (b : Fin 2) (n : ℕ) (k : Pg F) : Pg F := outWait b (k0_off7 d (chw (ck n))) (k0_off7_inb d (ck n)) k

/-- Round `n + 1` of the second phase with the `y` chunk `n + 1` and the `x` chunk `n`; `wy`, `wx` wait for the slots' earlier copies
    out, `nxt` starts the load after. -/
def pair (gM : Memref sig .tc .vmem S4096 .f32) (d : Dev nD) (wy wx : Pg F → Pg F) (nxt : Pg F → Pg F) (n : ℕ) (k : Pg F) : Pg F :=
  ldX d 0 n <| recvFwd d (ck (n + 1)) <| finY gM d 1 (ck (n + 1)) wy <|
  nxt <| recvOther d (ck n) <| finX gM d 0 (ck n) wx k

/-- The whole body after the device's id is read. -/
def text (gM : Memref sig .tc .vmem S4096 .f32) (d : Dev nD) : Pg F :=
  .op (.semSignal (yn d, .tc) barS (1#32 : BitVec 32).toInt) fun _ =>
  .op (.semSignal (xn d, .tc) barS (1#32 : BitVec 32).toInt) fun _ =>
  .op (.semWait barS (2#32 : BitVec 32).toInt) fun _ =>
  ldS d 0 <|
  rep (fun n k => ldS d (n + 1) <| sendOne d (ck n) (sl n) k) 15 <|
  sendOne d 15 1 <|
  ldY d 0 0 <| ldY d 1 1 <| recvFwd d 0 <| finY gM d 0 0 id <|
  pair gM d id (owY d 0 0) (ldY d 1 2) 0 <|
  rep (fun n k => pair gM d (owY d 1 (n + 1)) (owX d 0 n) (ldY d 1 (n + 3)) (n + 1) k) 13 <|
  pair gM d (owY d 1 14) (owX d 0 13) (ldX d 1 15) 14 <|
  recvOther d 15 <| finX gM d 1 15 (owY d 1 15) <|
  owX d 0 14 <| owX d 1 15 <|
  rep (fun n k => sentWait d (ck n) k) 16 (.ret ⟨⟩)

/-- The printed body is this text, once the device's id is read. -/
theorem body_eq (t : Fin cfg0.N) : (bodyAt0 t : Pg F) = .op .deviceId fun d => text (win0_0.stage (cfg0.slots t 0)) d := by
  chain_rfl

end Cert.KernelIdeal.Rs

end
-- ==== Proof.Geo.lean ====
/-
  Where things are: the devices across each axis, the semaphores' numbers, and the buffers cut into chunks of 128 rows.
  A chunk is named by its place `q` among the 32 chunks of a device's half (`qY d r`: the `r`-th of the device's own
  quarter, `qX d r`: of the other one).
-/
module

public import proofs.«01_k».proof.Proof.Text
public import Idealize.ShloMosaic.Lib.Pipeline.Launch
public import Idealize.ShloMosaic.Lib.Pipeline.Kit
public import Idealize.ShloMosaic.Lib.Pipeline.ValueKit.Geometry
public import Idealize.ShloMosaic.Lib.Transfers
public import Idealize.ShloMosaic.Lib.Tactic

@[expose] public section

set_option maxRecDepth 16384

noncomputable section

namespace Cert.KernelIdeal.Rs

open Idealize.ShloMosaic Idealize.ShloMosaic.TcCoe
open Idealize.SL Idealize.SL.Sem
open Gen

variable {F : FTy → Type} [FloatOps F]

/-! ## Devices -/

theorem yn_yn (d : Dev nD) : yn (yn d) = d := by revert d; decide +kernel
theorem xn_xn (d : Dev nD) : xn (xn d) = d := by revert d; decide +kernel
/-- Exchanging along each axis. -/
def yE : Dev nD ≃ Dev nD := ⟨yn, yn, yn_yn, yn_yn⟩
def xE : Dev nD ≃ Dev nD := ⟨xn, xn, xn_xn, xn_xn⟩

/-- A device's place on each axis, and the other place. -/
def yOf (d : Dev nD) : Fin 2 := ⟨d.val % 2, by omega⟩
def yNo (d : Dev nD) : Fin 2 := ⟨1 - d.val % 2, by omega⟩
theorem d_lt (d : Dev nD) : d.val < 4 := d.isLt
/-- The chunks of the device's own quarter, and of the other. -/
def qY (d : Dev nD) (r : Fin 16) : Fin 32 := ⟨16 * (d.val / 2) + r.val, by have := d_lt d; omega⟩
def qX (d : Dev nD) (r : Fin 16) : Fin 32 := ⟨16 * (1 - d.val / 2) + r.val, by have := d_lt d; omega⟩

theorem qY_yn (d : Dev nD) (r : Fin 16) : qY (yn d) r = qY d r := by revert d r; decide +kernel
theorem qX_yn (d : Dev nD) (r : Fin 16) : qX (yn d) r = qX d r := by revert d r; decide +kernel
theorem qY_xn (d : Dev nD) (r : Fin 16) : qY (xn d) r = qX d r := by revert d r; decide +kernel
theorem qX_xn (d : Dev nD) (r : Fin 16) : qX (xn d) r = qY d r := by revert d r; decide +kernel
theorem yNo_yn (d : Dev nD) : yOf (yn d) = yNo d := by revert d; decide +kernel
theorem yOf_xn (d : Dev nD) : yOf (xn d) = yOf d := by revert d; decide +kernel

/-- The device chunk `q` of device `d`'s received rows was narrowed on. -/
def src (d : Dev nD) (q : Fin 32) : Dev nD := if q.val / 16 = d.val / 2 then yn d else yn (xn d)
theorem src_yn (d : Dev nD) (r : Fin 16) : src (yn d) (qY d r) = d := by revert d r; decide +kernel
theorem src_xn (d : Dev nD) (r : Fin 16) : src (xn d) (qY d r) = src d (qY d r) := by revert d r; decide +kernel

/-- The two quarters are all the chunks. -/
def quarters (d : Dev nD) : (Fin 16 ⊕ Fin 16) ≃ Fin 32 where
  toFun := Sum.elim (qY d) (qX d)
  invFun q := if q.val / 16 = d.val / 2 then .inl ⟨q.val % 16, by omega⟩ else .inr ⟨q.val % 16, by omega⟩
  left_inv := by revert d; decide +kernel
  right_inv := by revert d; decide +kernel

/-! ## Offsets -/

abbrev pO (y : Fin 2) (q : Fin 32) : Fin 3 → Nat := ![0, 4096 * y.val + 128 * q.val, 0]
abbrev rO (q : Fin 32) : Fin 2 → Nat := ![128 * q.val, 0]
theorem pO_inb (y : Fin 2) (q : Fin 32) : ∀ a, pO y q a + S1x128x4096.size a ≤ S1x8192x4096.size a := by revert y q; decide +kernel
theorem rO_inb (q : Fin 32) : ∀ a, rO q a + S128x4096.size a ≤ S4096x4096.size a := by revert q; decide +kernel

theorem off1_eq (d : Dev nD) (r : Fin 16) : k0_off1 d (chw r) = pO (yNo d) (qY d r) := by revert d r; decide +kernel
theorem off2_eq (d : Dev nD) (r : Fin 16) : k0_off2 d (chw r) = rO (qY d r) := by revert d r; decide +kernel
theorem off3_eq (d : Dev nD) (r : Fin 16) : k0_off3 d (chw r) = pO (yOf d) (qY d r) := by revert d r; decide +kernel
theorem off4_eq (d : Dev nD) (r : Fin 16) : k0_off4 d (chw r) = rO (qY d r) := by revert d r; decide +kernel
theorem off5_eq (d : Dev nD) (r : Fin 16) : k0_off5 d (chw r) = pO (yOf d) (qX d r) := by revert d r; decide +kernel
theorem off6_eq (d : Dev nD) (r : Fin 16) : k0_off6 d (chw r) = rO (qX d r) := by revert d r; decide +kernel
theorem off7_eq (d : Dev nD) (r : Fin 16) : k0_off7 d (chw r) = rO (qX d r) := by revert d r; decide +kernel

/-- The chunks as memrefs. -/
abbrev pQ (y : Fin 2) (q : Fin 32) : Memref sig .tc .hbm S128x4096 .f32 := pM (pO y q) (pO_inb y q)
abbrev rQ (q : Fin 32) : Memref sig .tc .vmem S128x4096 .bf16 := rbM (rO q) (rO_inb q)
abbrev oQ (q : Fin 32) : Memref sig .tc .hbm S128x4096 .f32 := otM (rO q) (rO_inb q)

theorem pM_eq {o : Fin 3 → Nat} {y : Fin 2} {q : Fin 32} (e : o = pO y q) (h) : pM o h = pQ y q := by subst e; rfl
theorem rbM_eq {o : Fin 2 → Nat} {q : Fin 32} (e : o = rO q) (h) : rbM o h = rQ q := by subst e; rfl
theorem otM_eq {o : Fin 2 → Nat} {q : Fin 32} (e : o = rO q) (h) : otM o h = oQ q := by subst e; rfl
theorem ownM_eq (d : Dev nD) (r : Fin 16) : ownM d r = rQ (qY d r) := rbM_eq (off2_eq d r) _

/-! ## Semaphores -/

/-- The kernel's synchronising semaphores: the barrier's (`none`), and for every chunk the four of its two remote copies. -/
abbrev Cl : Type := Option (Fin 4 × Fin 16)
def ksem : Cl → SemLoc sig
  | none => .reg barS
  | some (a, r) => match a with
    | 0 => .dma (sendY r) | 1 => .dma (recvY r) | 2 => .dma (sendX r) | 3 => .dma (recvX r)
/-- Which of them a semaphore is. -/
def dec : SemLoc sig → Option Cl
  | .reg _ => some none
  | .dma q => if h : 1 ≤ q.val ∧ q.val ≤ 64 then some (some (⟨(q.val - 1) / 16, by omega⟩, ⟨(q.val - 1) % 16, by omega⟩)) else none

theorem dec_ksem (k : Cl) : dec (ksem k) = some k := by revert k; decide +kernel
theorem ksem_inj : Function.Injective ksem := fun a b h => Option.some.inj (by rw [← dec_ksem, h, dec_ksem])
theorem dec_inS (b : Fin 2) : dec (.dma (inS b)) = none := by revert b; decide +kernel
theorem dec_outS (b : Fin 2) : dec (.dma (outS b)) = none := by revert b; decide +kernel

abbrev cell (d : Dev nD) (k : Cl) : GSem nD τ sig := ((d : Thread nD τ), ksem k)

/-! ## Buffers cut into chunks -/

section Cut
variable {α : Type}

/-- A place in a chunk. -/
abbrev at2 (i : Fin 128) (j : Fin 4096) : S128x4096.Idx := Shape.pair (d := ![128, 4096]) i j

/-- The 4096 rows made of 32 chunks, the 2048 rows made of 16, the two slots. -/
def asm32 (f : Fin 32 → S128x4096.Idx → α) : S4096x4096.Idx → α := fun j =>
  f ⟨(j 0).val / 128, by have := (j 0).isLt; simp only [Fin.val_zero, S4096x4096, Shape.size] at this ⊢; simp at this; omega⟩
    (at2 ⟨(j 0).val % 128, by omega⟩ (j 1))
def asm16 (f : Fin 16 → S128x4096.Idx → α) : S2048x4096.Idx → α := fun j =>
  f ⟨(j 0).val / 128, by have := (j 0).isLt; simp only [Fin.val_zero, S2048x4096, Shape.size] at this ⊢; simp at this; omega⟩
    (at2 ⟨(j 0).val % 128, by omega⟩ (j 1))

theorem at2_self (x : S128x4096.Idx) : at2 (x 0) (x 1) = x := by
  funext a; refine Fin.ext ?_; fin_cases a <;> rfl

end Cut

open Idealize.ShloMosaic.ValueKit in
theorem asm32_emb {α : Type} (f : Fin 32 → S128x4096.Idx → α) (q : Fin 32) (x : S128x4096.Idx) : asm32 f ((rowR (rO q) (rO_inb q)).emb x) = f q x := by
  have h0 : ((rowR (rO q) (rO_inb q)).emb x 0 : Nat) = 128 * q.val + (x 0).val := rect_emb_unit_val _ _ _ _ _
  have h1 : ((rowR (rO q) (rO_inb q)).emb x 1 : Nat) = 0 + (x 1).val := rect_emb_unit_val _ _ _ _ _
  have hx : (x 0).val < 128 := (x 0).isLt
  unfold asm32
  have e1 : ∀ h, (⟨((rowR (rO q) (rO_inb q)).emb x 0).val / 128, h⟩ : Fin 32) = q := fun h => Fin.ext (by simp only [h0]; omega)
  rw [e1]
  congr 1
  conv_rhs => rw [← at2_self x]
  congr 1
  · exact Fin.ext (by simp only [h0]; omega)
  · exact Fin.ext (by simp only [h1]; omega)

open Idealize.ShloMosaic.ValueKit in
theorem asm16_emb {α : Type} (f : Fin 16 → S128x4096.Idx → α) (r : Fin 16) (x : S128x4096.Idx) : asm16 f ((sbR r).emb x) = f r x := by
  have h0 : ((sbR r).emb x 0 : Nat) = 128 * r.val + (x 0).val := rect_emb_unit_val _ _ _ _ _
  have h1 : ((sbR r).emb x 1 : Nat) = 0 + (x 1).val := rect_emb_unit_val _ _ _ _ _
  have hx : (x 0).val < 128 := (x 0).isLt
  unfold asm16
  have e1 : ∀ h, (⟨((sbR r).emb x 0).val / 128, h⟩ : Fin 16) = r := fun h => Fin.ext (by simp only [h0]; omega)
  rw [e1]
  congr 1
  conv_rhs => rw [← at2_self x]
  congr 1
  · exact Fin.ext (by simp only [h0]; omega)
  · exact Fin.ext (by simp only [h1]; omega)

theorem read_rQ (f : Fin 32 → S128x4096.Idx → Elt F .bf16) (q : Fin 32) : (rQ q).view.read (Elt F) (asm32 f) = f q :=
  funext fun x => asm32_emb f q x
theorem read_oQ (f : Fin 32 → S128x4096.Idx → Elt F .f32) (q : Fin 32) : (oQ q).view.read (Elt F) (asm32 f) = f q :=
  funext fun x => asm32_emb f q x
theorem read_sb (f : Fin 16 → S128x4096.Idx → Elt F .bf16) (r : Fin 16) : (sbM r).view.read (Elt F) (asm16 f) = f r :=
  funext fun x => asm16_emb f r x

/-- What is written through a view where the buffer `g` reads the same is `g`, on the view. -/
theorem write_agree {κ : Kind} {sp : Space} {s : Shape} {e : EltTy} (v : View sig κ sp s e) (fd g : v.ty.Contents (Elt F)) (w : s.Idx → Elt F e)
    (h : w = v.read (Elt F) g) : ∀ i ∈ v.set, v.write (Elt F) fd w Finset.univ i = g i := by
  intro i hi
  obtain ⟨x, -, rfl⟩ := Finset.mem_map.mp hi
  subst h
  rw [View.write_emb_of_mem _ _ (Finset.mem_univ x)]
  unfold View.read
  rw [cast_cast, cast_eq]

/-! ### The chunks partition the buffers -/

theorem row_set (q : Fin 32) (i : S4096x4096.Idx) : i ∈ (rowR (rO q) (rO_inb q)).set ↔ (i 0).val / 128 = q.val := by
  refine Rect.mem_set_unit.trans ⟨fun h => ?_, fun h a => ?_⟩
  · have h0 : 128 * q.val ≤ (i 0).val ∧ (i 0).val < 128 * q.val + 128 := h 0
    omega
  · have h1 : (i 1).val < 4096 := (i 1).isLt
    fin_cases a
    · show 128 * q.val ≤ (i 0).val ∧ (i 0).val < 128 * q.val + 128; omega
    · show 0 ≤ (i 1).val ∧ (i 1).val < 0 + 4096; omega

theorem sb_set (r : Fin 16) (i : S2048x4096.Idx) : i ∈ (sbR r).set ↔ (i 0).val / 128 = r.val := by
  refine Rect.mem_set_unit.trans ⟨fun h => ?_, fun h a => ?_⟩
  · have h0 : 128 * r.val ≤ (i 0).val ∧ (i 0).val < 128 * r.val + 128 := h 0
    omega
  · have h1 : (i 1).val < 4096 := (i 1).isLt
    fin_cases a
    · show 128 * r.val ≤ (i 0).val ∧ (i 0).val < 128 * r.val + 128; omega
    · show 0 ≤ (i 1).val ∧ (i 1).val < 0 + 4096; omega

theorem slot_set (b : Fin 2) (i : S2x128x4096.Idx) : i ∈ (slotR b).set ↔ (i 0).val = b.val := by
  refine Rect.mem_set_unit.trans ⟨fun h => ?_, fun h a => ?_⟩
  · have h0 : b.val ≤ (i 0).val ∧ (i 0).val < b.val + 1 := h 0
    omega
  · have h1 : (i 1).val < 128 := (i 1).isLt
    have h2 : (i 2).val < 4096 := (i 2).isLt
    fin_cases a
    · show b.val ≤ (i 0).val ∧ (i 0).val < b.val + 1; omega
    · show 0 ≤ (i 1).val ∧ (i 1).val < 0 + 128; omega
    · show 0 ≤ (i 2).val ∧ (i 2).val < 0 + 4096; omega

/-- The elements under a chunk, or a slot, of each buffer. -/
theorem rQ_set (q : Fin 32) : (rQ q).view.set = (rowR (rO q) (rO_inb q)).set := View.set_slice_whole _ _
theorem oQ_set (q : Fin 32) : (oQ q).view.set = (rowR (rO q) (rO_inb q)).set := View.set_slice_whole _ _
theorem sbM_set (r : Fin 16) : (sbM r).view.set = (sbR r).set := View.set_slice_whole _ _
theorem stM_set (b : Fin 2) : (stM b).view.set = (slotR b).set := (View.set_reshape _ _).trans (View.set_slice_whole _ _)
theorem ouM_set (b : Fin 2) : (ouM b).view.set = (slotR b).set := (View.set_reshape _ _).trans (View.set_slice_whole _ _)

theorem row_disj (q q' : Fin 32) (h : q ≠ q') : Disjoint (rowR (rO q) (rO_inb q)).set (rowR (rO q') (rO_inb q')).set :=
  Finset.disjoint_left.mpr fun i h1 h2 => h (Fin.ext (((row_set q i).mp h1).symm.trans ((row_set q' i).mp h2)))
theorem sb_disj (q q' : Fin 16) (h : q ≠ q') : Disjoint (sbR q).set (sbR q').set :=
  Finset.disjoint_left.mpr fun i h1 h2 => h (Fin.ext (((sb_set q i).mp h1).symm.trans ((sb_set q' i).mp h2)))
theorem slot_disj (q q' : Fin 2) (h : q ≠ q') : Disjoint (slotR q).set (slotR q').set :=
  Finset.disjoint_left.mpr fun i h1 h2 => h (Fin.ext (((slot_set q i).mp h1).symm.trans ((slot_set q' i).mp h2)))
theorem row_cover : (Finset.univ : Finset (Fin 32)).biUnion (fun q => (rowR (rO q) (rO_inb q)).set) = Finset.univ :=
  Finset.eq_univ_iff_forall.mpr fun i => Finset.mem_biUnion.mpr ⟨⟨(i 0).val / 128, Nat.div_lt_of_lt_mul (i 0).isLt⟩, Finset.mem_univ _, (row_set _ i).mpr rfl⟩
theorem sb_cover : (Finset.univ : Finset (Fin 16)).biUnion (fun q => (sbR q).set) = Finset.univ :=
  Finset.eq_univ_iff_forall.mpr fun i => Finset.mem_biUnion.mpr ⟨⟨(i 0).val / 128, Nat.div_lt_of_lt_mul (i 0).isLt⟩, Finset.mem_univ _, (sb_set _ i).mpr rfl⟩
theorem slot_cover : (Finset.univ : Finset (Fin 2)).biUnion (fun q => (slotR q).set) = Finset.univ :=
  Finset.eq_univ_iff_forall.mpr fun i => Finset.mem_biUnion.mpr ⟨⟨(i 0).val, (i 0).isLt⟩, Finset.mem_univ _, (slot_set _ i).mpr rfl⟩

end Cert.KernelIdeal.Rs

end
-- ==== Proof.Proto.lean ====
/-
  The protocol of the four devices. Each device lets the device across `y` write the chunks of its own quarter and the
  device across `x` the chunks of the other quarter, and says so on their barrier semaphores; every chunk that travels is
  announced by its own pair of semaphores. Here: what the buffers hold at every moment (`SB`, `RB`, `OUT`, all from the
  memory at launch), what each semaphore's wait hands over (`pay`), what each device owes, and the order of the waits.
-/
module

public import proofs.«01_k».proof.Proof.Geo

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

/-! ## The resource algebra: the pipeline's copy, the rounds', the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The rounds' copy: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

variable (m : (ℓ : Loc nD τ sig) → Buf (Elt F) ℓ)

/-! ## Contents -/

/-- Chunk `q` of half `y` of device `d`'s argument. -/
def PC (d : Dev nD) (y : Fin 2) (q : Fin 32) : S128x4096.Idx → Elt F .f32 :=
  (pQ y q).view.read (Elt F) (m ((d : Thread nD τ).loc main_arg0))
/-- A chunk narrowed for the journey. -/
def nar (v : S128x4096.Idx → Elt F .f32) : S128x4096.Idx → Elt F .bf16 :=
  shapeCast S128x4096 (truncf .bf16 (show FVec F S128x4096 .f32 from v) bitsLt_bf16_f32) shapeCasts_S128x4096_S128x4096
/-- A chunk summed with a received one, normalised and scaled. -/
def comp2 (v : S128x4096.Idx → Elt F .f32) (w : S128x4096.Idx → Elt F .bf16) (g : S4096.Idx → Elt F .f32) : S128x4096.Idx → Elt F .f32 :=
  let y : FVec F S128x4096 .f32 := addf v (extf .f32 (show FVec F S128x4096 .bf16 from w) bitsLt_bf16_f32)
  mulf (mulf y (broadcastTo S128x4096 (rms y) broadcasts_S128x1_S128x4096))
    (broadcastTo S128x4096 (shapeCast S1x4096 (shapeCast S4096 (show FVec F S4096 .f32 from g) shapeCasts_S4096_S4096) shapeCasts_S4096_S1x4096) broadcasts_S1x4096_S128x4096)

/-- The send buffer once filled. -/
def SB (d : Dev nD) : S2048x4096.Idx → Elt F .bf16 := asm16 fun r => nar (PC m d (yNo d) (qY d r))
/-- The receive buffer once filled. -/
def RB (d : Dev nD) : S4096x4096.Idx → Elt F .bf16 := asm32 fun q => nar (PC m (src d q) (yOf d) q)
/-- The scale as the body reads it. -/
def GM (d : Dev nD) : S4096.Idx → Elt F .f32 := m ((d : Thread nD τ).loc main_arg1)
/-- The result. -/
def OUT (d : Dev nD) : S4096x4096.Idx → Elt F .f32 := asm32 fun q => comp2 (PC m d (yOf d) q) (nar (PC m (src d q) (yOf d) q)) (GM m d)

/-! ## The buffers' pieces -/

/-- Receive chunk `q`, send chunk `r`, load slot `b`, output slot `b`, result chunk `q`, at contents `f`. -/
def rb (d : Dev nD) (q : Fin 32) (s : PosShare TreeShare) (f : S4096x4096.Idx → Elt F .bf16) : sProp 𝕄 :=
  (rQ q).view.loc (d : Thread nD τ) ↦[(rQ q).view.set]{s} f
def sb (d : Dev nD) (r : Fin 16) (f : S2048x4096.Idx → Elt F .bf16) : sProp 𝕄 :=
  (sbM r).view.loc (d : Thread nD τ) ↦[(sbM r).view.set]{fullShare} f
def st (d : Dev nD) (b : Fin 2) (f : S2x128x4096.Idx → Elt F .f32) : sProp 𝕄 :=
  (stM b).view.loc (d : Thread nD τ) ↦[(stM b).view.set]{fullShare} f
def ou (d : Dev nD) (b : Fin 2) (f : S2x128x4096.Idx → Elt F .f32) : sProp 𝕄 :=
  (ouM b).view.loc (d : Thread nD τ) ↦[(ouM b).view.set]{fullShare} f
def ot (d : Dev nD) (q : Fin 32) (f : S4096x4096.Idx → Elt F .f32) : sProp 𝕄 :=
  (oQ q).view.loc (d : Thread nD τ) ↦[(oQ q).view.set]{fullShare} f
/-- Receive chunk `q` with nothing known of it: what a device lends to the one that writes it. -/
def lend (d : Dev nD) (q : Fin 32) : sProp 𝕄 := iprop(∃ f, rb d q fullShare f)

instance rb_storable (d : Dev nD) (q : Fin 32) (s) (f) : BI.Storable (upEmb : UEmb _ 𝕄) (rb (F := F) d q s f) := by unfold rb; infer_instance
instance sb_storable (d : Dev nD) (r : Fin 16) (f) : BI.Storable (upEmb : UEmb _ 𝕄) (sb (F := F) d r f) := by unfold sb; infer_instance
instance lend_storable (d : Dev nD) (q : Fin 32) : BI.Storable (upEmb : UEmb _ 𝕄) (lend (F := F) d q) := by unfold lend; infer_instance

/-! ## The schedule -/

/-- What a chunk's copy credits. -/
abbrev N : ℕ := (rQ 0).view.dmaCredit
theorem N_pos : 0 < N := View.dmaCredit_pos _ (by decide)

/-- What a wait on semaphore `k` of device `c` hands over: by the barrier the chunks lent by the two neighbours, by the
    others the chunk that travelled (`some (0, r)`, `some (2, r)`: its source back; `some (1, r)`, `some (3, r)`: its arrival). -/
def pay (c : Dev nD) : Cl → Bool → sProp 𝕄
  | none, false => bigSep Finset.univ fun r : Fin 16 => lend (yn c) (qY c r)
  | none, true => bigSep Finset.univ fun r : Fin 16 => lend (xn c) (qY c r)
  | some (a, r), _ => match a with
    | 0 => sb c r (SB m c)
    | 1 => rb c (qY c r) fullShare (RB m c)
    | 2 => rb c (qY c r) fullShare.left (RB m c)
    | 3 => rb c (qX c r) fullShare (RB m c)

instance pay_storable (c : Dev nD) (k : Cl) (d : Bool) : BI.Storable (upEmb : UEmb _ 𝕄) (pay (F := F) m c k d) := by
  rcases k with _ | ⟨a, r⟩
  · cases d <;> (unfold pay; infer_instance)
  · fin_cases a <;> (simp only [pay]; infer_instance)

/-- The barrier is paid by two, the others by one. -/
def dts : Cl → Finset Bool
  | none => Finset.univ
  | some _ => {false}
def amt : Option Cl → ℕ
  | some none => 1
  | _ => N
theorem amt_pos (k : Option Cl) : 0 < amt k := by
  rcases k with _ | _ | _
  · exact N_pos
  · exact Nat.one_pos
  · exact N_pos

/-- One round. -/
def Rd : Rounds.Schedule (GSem nD τ sig) Bool 𝕄 where
  duties g r := if r = 0 ∧ g.1.2 = .tc then (dec g.2).elim ∅ dts else ∅
  unitless _ := False
  amount g _ _ := amt (dec g.2)
  payload g _ d := (dec g.2).elim iprop(emp) fun k => pay m g.1.1 k d
  amount_pos g _ _ _ := amt_pos _

instance Rd_payload_storable (g : GSem nD τ sig) (r : ℕ) (d : Bool) : BI.Storable (upEmb : UEmb _ 𝕄) ((Rd (F := F) m).payload g r d) := by
  show BI.Storable upEmb ((dec g.2).elim iprop(emp) fun k => pay m g.1.1 k d)
  cases dec g.2 with
  | none => exact (inferInstance : BI.Storable (upEmb : UEmb _ 𝕄) iprop(emp))
  | some k => exact pay_storable m g.1.1 k d

section Tables
variable (c : Dev nD)

theorem duties_cell (k : Cl) : (Rd (F := F) m).duties (cell c k) 0 = dts k := by
  dsimp only [Rd]; rw [if_pos ⟨rfl, rfl⟩, dec_ksem]; rfl
theorem duties_later (g : GSem nD τ sig) : ∀ r, 0 + 1 ≤ r → (Rd (F := F) m).duties g r = ∅ :=
  fun r hr => by dsimp only [Rd]; rw [if_neg fun h => by omega]
theorem amount_cell (k : Cl) (d : Bool) : (Rd (F := F) m).amount (cell c k) 0 d = amt (some k) := by
  dsimp only [Rd]; rw [dec_ksem]
theorem payload_cell (k : Cl) (d : Bool) : (Rd (F := F) m).payload (cell c k) 0 d = pay m c k d := by
  dsimp only [Rd]; rw [dec_ksem]; rfl
theorem expect_bar : (Rd (F := F) m).expect (cell c none) 0 = 2 := by
  unfold Schedule.expect Schedule.amountOf
  rw [duties_cell, Finset.sum_congr rfl fun d _ => amount_cell m c none d]; rfl
theorem expect_some (x : Fin 4 × Fin 16) : (Rd (F := F) m).expect (cell c (some x)) 0 = N := by
  unfold Schedule.expect Schedule.amountOf
  rw [duties_cell, Finset.sum_congr rfl fun d _ => amount_cell m c (some x) d]; exact Finset.sum_singleton _ _
theorem rest_bar : bigSep ((Rd (F := F) m).duties (cell c none) 0 \ ∅) (fun d => (Rd (F := F) m).payload (cell c none) 0 d)
    = iprop(pay m c none false ∗ pay m c none true) := by
  rw [Finset.sdiff_empty, duties_cell, show dts none = Finset.univ from rfl, bigSep_univ_eq_bigSepL [false, true] (by decide) (by decide),
    bigSepL_cons_cons, bigSepL_singleton, payload_cell, payload_cell]
  rfl
theorem rest_some (x : Fin 4 × Fin 16) : bigSep ((Rd (F := F) m).duties (cell c (some x)) 0 \ ∅) (fun d => (Rd (F := F) m).payload (cell c (some x)) 0 d)
    = pay m c (some x) false := by
  rw [Finset.sdiff_empty, duties_cell, show dts (some x) = {false} from rfl, bigSep_singleton, payload_cell]
theorem mem_some (x : Fin 4 × Fin 16) : false ∈ (Rd (F := F) m).duties (cell c (some x)) 0 := by
  rw [duties_cell]; exact Finset.mem_singleton_self _
theorem mem_bar (d : Bool) : d ∈ (Rd (F := F) m).duties (cell c none) 0 := by rw [duties_cell]; exact Finset.mem_univ _

end Tables

/-! ## What is owed, and the order of the waits -/

/-- The arrivals device `c` still owes from chunk `n` on: across `y`, across `x`. -/
def OY (c : Dev nD) (n : ℕ) : CellTallies nD τ sig Unit :=
  ∑ i ∈ (Finset.univ : Finset (Fin 16)).filter (n ≤ ·.val), tallyAt (cell (yn c) (some (1, i))) () N
def OX (c : Dev nD) (n : ℕ) : CellTallies nD τ sig Unit :=
  ∑ i ∈ (Finset.univ : Finset (Fin 16)).filter (n ≤ ·.val), tallyAt (cell (xn c) (some (3, i))) () N
/-- Everything at launch. -/
def O₀ (c : Dev nD) : CellTallies nD τ sig Unit :=
  OX c 0 + OY c 0 + tallyAt (cell (xn c) none) () 1 + tallyAt (cell (yn c) none) () 1

theorem filter_step (n : ℕ) (h : n < 16) :
    (Finset.univ : Finset (Fin 16)).filter (n ≤ ·.val) = insert (ck n) ((Finset.univ : Finset (Fin 16)).filter (n + 1 ≤ ·.val)) := by
  have hc : (ck n).val = n := Nat.mod_eq_of_lt h
  ext i
  simp only [Finset.mem_filter, Finset.mem_univ, true_and, Finset.mem_insert]
  constructor
  · intro hi
    by_cases e : i.val = n
    · exact .inl (Fin.ext (e.trans hc.symm))
    · exact .inr (by omega)
  · rintro (rfl | hi) <;> omega
theorem OY_step (c : Dev nD) (n : ℕ) (h : n < 16) : OY c n = OY c (n + 1) + tallyAt (cell (yn c) (some (1, ck n))) () N := by
  have hc : (ck n).val = n := Nat.mod_eq_of_lt h
  unfold OY
  rw [filter_step n h, Finset.sum_insert (by simp only [Finset.mem_filter, Finset.mem_univ, true_and]; omega), add_comm]
theorem OX_step (c : Dev nD) (n : ℕ) (h : n < 16) : OX c n = OX c (n + 1) + tallyAt (cell (xn c) (some (3, ck n))) () N := by
  have hc : (ck n).val = n := Nat.mod_eq_of_lt h
  unfold OX
  rw [filter_step n h, Finset.sum_insert (by simp only [Finset.mem_filter, Finset.mem_univ, true_and]; omega), add_comm]
theorem OY_end (c : Dev nD) : OY c 16 = 0 := by
  unfold OY; exact Finset.sum_eq_zero fun i hi => absurd (Finset.mem_filter.mp hi).2 (by omega)
theorem OX_end (c : Dev nD) : OX c 16 = 0 := by
  unfold OX; exact Finset.sum_eq_zero fun i hi => absurd (Finset.mem_filter.mp hi).2 (by omega)

def L (g : GSem nD τ sig) : Finset Unit := if g.1.2 = .tc then {()} else ∅
/-- The barrier first, then arrivals across `y`, then those across `x` in the order of the chunks; the rest waits for nobody. -/
def lvl : Option Cl → ℕ
  | some none => 1
  | some (some (1, _)) => 2
  | some (some (3, r)) => 3 + r.val
  | _ => 0
def lv (g : GSem nD τ sig) (_ : Unit) : ℕ := lvl (dec g.2)
theorem lv_cell (c : Dev nD) (k : Cl) : lv (cell c k) () = lvl (some k) := by unfold lv; rw [dec_ksem]

/-- Everything owed is on the other devices' cells above `b`. -/
def Above (b : ℕ) (O : CellTallies nD τ sig Unit) : Prop := ∀ g u, 0 < O g u → g.1.2 = .tc ∧ b < lv g u

theorem Above.add {b : ℕ} {O O' : CellTallies nD τ sig Unit} (h : Above b O) (h' : Above b O') : Above b (O + O') := fun g u hg => by
  rw [Pi.add_apply, Finsupp.add_apply] at hg
  by_cases e : 0 < O g u
  · exact h g u e
  · exact h' g u (by omega)
theorem above_zero (b : ℕ) : Above b 0 := fun g u h => absurd h (Nat.lt_irrefl 0)
theorem above_tally {b : ℕ} (c : Dev nD) (k : Cl) (n : ℕ) (h : b < lvl (some k)) : Above b (tallyAt (cell c k) () n) := fun g u hg => by
  rw [tallyAt_apply] at hg
  by_cases e : g = cell c k ∧ u = ()
  · rw [e.1, lv_cell]; exact ⟨rfl, h⟩
  · rw [if_neg e] at hg; exact absurd hg (Nat.lt_irrefl 0)
theorem above_sum {b : ℕ} {I : Type} (s : Finset I) (f : I → CellTallies nD τ sig Unit) (h : ∀ i ∈ s, Above b (f i)) : Above b (∑ i ∈ s, f i) := by
  classical
  induction s using Finset.induction_on with
  | empty => exact above_zero b
  | insert i s hi ih =>
    rw [Finset.sum_insert hi]
    exact (h i (Finset.mem_insert_self _ _)).add (ih fun j hj => h j (Finset.mem_insert_of_mem hj))
theorem Above.mono {b b' : ℕ} {O : CellTallies nD τ sig Unit} (h : Above b O) (hb : b' ≤ b) : Above b' O :=
  fun g u hg => ⟨(h g u hg).1, Nat.lt_of_le_of_lt hb (h g u hg).2⟩
theorem above_OY (c : Dev nD) (n : ℕ) : Above 1 (OY c n) := above_sum _ _ fun i _ => above_tally _ _ _ (by show 1 < 2; decide)
theorem above_OX (c : Dev nD) (n : ℕ) : Above (2 + n) (OX c n) := above_sum _ _ fun i hi => above_tally _ _ _ (by
  have := (Finset.mem_filter.mp hi).2
  show 2 + n < 3 + i.val; omega)
theorem above_O₀ (c : Dev nD) : Above 0 (O₀ c) :=
  ((((above_OX c 0).mono (Nat.zero_le _)).add ((above_OY c 0).mono (Nat.zero_le _))).add (above_tally _ _ _ (by decide))).add (above_tally _ _ _ (by decide))

theorem mayWait (c : Dev nD) (sm : SemLoc sig) {b : ℕ} (hs : lvl (dec sm) ≤ b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp]; unfold L; rw [if_pos rfl]; exact Finset.mem_singleton_self _)
    (fun g u hg => by unfold L; rw [if_pos (hO g u hg).1]; exact Finset.mem_singleton_self _)
    (fun p hp => by rw [Finset.mem_singleton.mp hp]; exact hs)
    (fun g u hg => (hO g u hg).2)

end Cert.KernelIdeal.Rs

end
-- ==== Proof.Steps.lean ====
/-
  One chunk at a time: what each piece of the body needs and what it leaves, for every chunk, slot and device.
-/
module

public import proofs.«01_k».proof.Proof.Proto

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Gen

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Cl → ℕ)

/-! ## The context and the triples -/

/-- Every cell's invariant, and that it has reached its round. -/
def records : sProp 𝕄 :=
  iprop((bigSep Finset.univ fun ck : Dev nD × Cl => cellInv ER (Rd m) (K ck) (cell ck.1 ck.2))
    ∗ bigSep Finset.univ fun ck : Dev nD × Cl => reached ER (cell ck.1 ck.2) 0)
instance records_persistent : BI.Persistent (records m K) := by unfold records; infer_instance

/-- What holds throughout: those, and the levels. -/
def Ctx : sProp 𝕄 := iprop(records m K ∗ levAts L lv)
instance Ctx_persistent : BI.Persistent (Ctx m K) := by unfold Ctx; infer_instance

theorem inv_at (ck : Dev nD × Cl) :
    (bigSep Finset.univ fun ck : Dev nD × Cl => (cellInv ER (Rd m) (K ck) (cell ck.1 ck.2) : sProp 𝕄)) ⊢ cellInv ER (Rd m) (K ck) (cell ck.1 ck.2) :=
  bigSep_elim (Finset.mem_univ ck)
theorem reached_at (ck : Dev nD × Cl) :
    (bigSep Finset.univ fun ck : Dev nD × Cl => (reached ER (cell ck.1 ck.2) 0 : sProp 𝕄)) ⊢ reached ER (cell ck.1 ck.2) 0 :=
  bigSep_elim (Finset.mem_univ ck)
theorem ctx_inv (c : Dev nD) (k : Cl) : Ctx m K ⊢ cellInv ER (Rd m) (K (c, k)) (cell c k) := by
  unfold Ctx records
  iintro ⟨⟨H, -⟩, -⟩
  iapply (inv_at m K (c, k)); iexact H
theorem ctx_reached (c : Dev nD) (k : Cl) : Ctx m K ⊢ reached ER (cell c k) 0 := by
  unfold Ctx records
  iintro ⟨⟨-, H⟩, -⟩
  iapply (reached_at (F := F) (c, k)); iexact H
theorem ctx_lev : Ctx m K ⊢ (levAts L lv : sProp 𝕄) := by unfold Ctx; iintro ⟨-, H⟩; iexact H

/-- Running `k` on device `d`, to `Kt`. -/
abbrev Run (d : Dev nD) (Kt : PUnit → sProp 𝕄) (k : Pg F) : sProp 𝕄 := wp frame (wpE (defs₀ (F := F)) 𝒱₀ (d : Thread nD τ) none) Set.univ k Kt

/-- The piece `f` of a program takes `P` to `Q`. -/
def Tr (d : Dev nD) (Kt : PUnit → sProp 𝕄) (P : sProp 𝕄) (f : Pg F → Pg F) (Q : sProp 𝕄) : Prop :=
  ∀ k : Pg F, iprop(Ctx m K ∗ P) ⊢ iprop((Q -∗ Run (F := F) d Kt k) -∗ Run (F := F) d Kt (f k))

variable (d : Dev nD) (Kt : PUnit.{1} → sProp (MT nD τ sig Unit (Elt F) ℕ UU ℕ))

/-- What device `d` owes, whatever it has waited for. -/
def Ow (O : CellTallies nD τ sig Unit) : sProp 𝕄 := iprop(∃ W, owes (d : Thread nD τ) O W)

section Combine
variable {m K d Kt}

theorem Tr.seq {P Q R : sProp 𝕄} {f g : Pg F → Pg F} (hf : Tr m K d Kt P f Q) (hg : Tr m K d Kt Q g R) : Tr m K d Kt P (fun k => f (g k)) R := fun k => by
  iintro ⟨#HC, HP⟩ Hk
  iapply (hf (g k)) $$ [HP]
  · isplitr; · iexact HC
    iexact HP
  iintro HQ
  iapply (hg k) $$ [HQ]
  · isplitr; · iexact HC
    iexact HQ
  iexact Hk

theorem Tr.id (P : sProp 𝕄) : Tr m K d Kt P id P := fun k => by
  iintro ⟨-, HP⟩ Hk
  iapply Hk; iexact HP

/-- A loop, by its invariant. -/
theorem Tr.rep (I : ℕ → sProp 𝕄) (f : ℕ → Pg F → Pg F) : ∀ n, (∀ i, i < n → Tr m K d Kt (I i) (f i) (I (i + 1))) → Tr m K d Kt (I 0) (rep f n) (I n)
  | 0, _ => Tr.id (I 0)
  | n + 1, h => (Tr.rep I f n fun i hi => h i (by omega)).seq (h n (by omega))

end Combine

/-! ## Progress over the chunks -/

/-- `B` of the first `n` chunks, `A` of the others. -/
def pr (n : ℕ) (A B : Fin 16 → sProp 𝕄) : sProp 𝕄 := bigSep Finset.univ fun i : Fin 16 => if i.val < n then B i else A i

theorem pr_zero (A B : Fin 16 → sProp 𝕄) : pr 0 A B = bigSep Finset.univ A := rfl
theorem pr_all (A B : Fin 16 → sProp 𝕄) : pr 16 A B = bigSep Finset.univ B := by
  unfold pr; exact bigSep_congr fun i _ => if_pos i.isLt
theorem pr_step (n : ℕ) (h : n < 16) (A B : Fin 16 → sProp 𝕄) :
    pr n A B ⊢ iprop(A (ck n) ∗ (B (ck n) -∗ pr (n + 1) A B)) := by
  have hc : (ck n).val = n := Nat.mod_eq_of_lt h
  unfold pr
  rw [bigSep_univ_at _ (ck n), bigSep_univ_at (fun i : Fin 16 => if i.val < n + 1 then B i else A i) (ck n), if_neg (by omega), if_pos (by omega),
    bigSep_congr (s := Finset.univ.erase (ck n)) (Ψ := fun i : Fin 16 => if i.val < n + 1 then B i else A i) (fun i hi => by
      have hne : i.val ≠ n := fun e => (Finset.mem_erase.mp hi).1 (Fin.ext (e.trans hc.symm))
      by_cases hlt : i.val < n
      · rw [if_pos hlt, if_pos (by omega)]
      · rw [if_neg hlt, if_neg (by omega)])]
  iintro ⟨HA, HR⟩
  isplitl [HA]; · iexact HA
  iintro HB
  isplitl [HB] <;> iassumption

/-! ## The slots -/

/-- Half of the argument goes with each slot. -/
def qs (b : Fin 2) : PosShare TreeShare := if b = 0 then fullShare.left else fullShare.right
def PA (b : Fin 2) (S : Finset S1x8192x4096.Idx) : sProp 𝕄 :=
  ((d : Thread nD τ).loc main_arg0) ↦[S]{qs b} (m ((d : Thread nD τ).loc main_arg0))

abbrev NI : ℕ := (stM 0).view.dmaCredit
theorem NI_pos : 0 < NI := View.dmaCredit_pos _ (by decide)
theorem st_credit (b : Fin 2) : (stM b).view.dmaCredit = NI := rfl
theorem ot_credit {o : Fin 2 → Nat} (h) : (otM o h).view.dmaCredit = NI := rfl
theorem rb_credit (q : Fin 32) : (rQ q).view.dmaCredit = N := rfl
theorem sb_credit (r : Fin 16) : (sbM r).view.dmaCredit = N := rfl

/-- A load slot: free, being filled with chunk `q` of half `y`, and holding `v`. -/
def stIdle (b : Fin 2) : sProp 𝕄 := iprop(semVal ((d : Thread nD τ), .dma (inS b)) 0 ∗ PA m d b Finset.univ ∗ ∃ f, st d b f)
def stFull (b : Fin 2) (v : S128x4096.Idx → Elt F .f32) : sProp 𝕄 :=
  iprop(semVal ((d : Thread nD τ), .dma (inS b)) 0 ∗ PA m d b Finset.univ ∗ ∃ f, ⌜(stM b).view.read (Elt F) f = v⌝ ∗ st d b f)
def stBusy (b : Fin 2) (y : Fin 2) (q : Fin 32) : sProp 𝕄 :=
  iprop(Flight EC (d : Thread nD τ) (.dma (inS b)) () NI iprop((∃ f, ⌜(stM b).view.read (Elt F) f = PC m d y q⌝ ∗ st d b f) ∗ PA m d b (pQ y q).view.set)
    ∗ PA m d b (Finset.univ \ (pQ y q).view.set))

/-- An output slot: free, and being copied out as chunk `q` of the result. -/
def ouIdle (b : Fin 2) : sProp 𝕄 := iprop(semVal ((d : Thread nD τ), .dma (outS b)) 0 ∗ ∃ f, ou d b f)
def ouBusy (b : Fin 2) (q : Fin 32) : sProp 𝕄 :=
  Flight EC (d : Thread nD τ) (.dma (outS b)) () NI iprop(ot d q (OUT m d) ∗ ∃ f, ou d b f)

/-! ## The pieces -/

theorem landed_st (b : Fin 2) (f : S2x128x4096.Idx → Elt F .f32) (v : S128x4096.Idx → Elt F .f32) :
    ((stM b).view.loc (d : Thread nD τ) ↦[(stM b).view.set]{fullShare} ((stM b).view.write (Elt F) f v Finset.univ) : sProp 𝕄)
      ⊢ iprop(∃ f', ⌜(stM b).view.read (Elt F) f' = v⌝ ∗ st d b f') := by
  iintro H
  iexists ((stM b).view.write (Elt F) f v Finset.univ)
  isplitr
  · ipureintro; exact View.read_write_univ _ _
  unfold st; iexact H

theorem tr_ldStart (b : Fin 2) {o : Fin 3 → Nat} (h) {y : Fin 2} {q : Fin 32} (e : o = pO y q) :
    Tr m K d Kt (stIdle m d b) (ldStart b o h) (stBusy m d b y q) := fun k => by
  subst e
  unfold stIdle stBusy ldStart
  iintro ⟨-, Hv, HP, ⟨%f, Hst⟩⟩ Hk
  unfold PA
  ihave HP := (pointsTo_split_subset (Finset.subset_univ (pQ y q).view.set)).1 $$ HP
  icases HP with ⟨HP, HR⟩
  unfold st
  iapply (wp_dmaLocal EC 𝒱₀ (d : Thread nD τ) none (src := pQ y q) (dst := stM b) (via := .same) (sm := .dma (inS b)) (q := qs b) (fs := m ((d : Thread nD τ).loc main_arg0)) (fd := f)
    () NI (st_credit b) NI_pos (Finset.Subset.refl _)) $$ [HP Hst Hv]
  · isplitl [HP]; · iexact HP
    isplitl [Hst]; · iexact Hst
    iexact Hv
  iintro HF
  iapply Hk
  isplitl [HF]
  · iapply (Flight_mono EC (d : Thread nD τ) (sep_mono_left (landed_st d b f _))) $$ HF
  iexact HR

theorem tr_ldWait (b : Fin 2) (o : Fin 3 → Nat) (h) {y : Fin 2} {q : Fin 32} {O : CellTallies nD τ sig Unit} (hO : Above 0 O) :
    Tr m K d Kt iprop(stBusy m d b y q ∗ Ow d O) (ldWait b o h) iprop(stFull m d b (PC m d y q) ∗ Ow d O) := fun k => by
  unfold stFull stBusy ldWait Ow
  iintro ⟨#HC, ⟨HF, HR⟩, ⟨%W, HO⟩⟩ Hk
  iapply (wp_waitLocalO EC 𝒱₀ (d : Thread nD τ) none () (dstw := stM b) (st_credit b)) $$ [HF HO]
  · isplitl [HF]; · iexact HF
    isplitl [HO]; · iexact HO
    iapply (mayWait d (.dma (inS b)) (b := 0) (by rw [dec_inS]; exact Nat.le_refl 0) hO)
    iapply (ctx_lev m K); iexact HC
  iintro ⟨⟨Hst, HP⟩, Hv, HO⟩
  iapply Hk
  isplitr [HO]
  · isplitl [Hv]; · iexact Hv
    isplitl [HP HR]
    · unfold PA
      iapply (pointsTo_split_subset (Finset.subset_univ (pQ y q).view.set)).2
      isplitl [HP] <;> iassumption
    iexact Hst
  iexists _; iexact HO

theorem stFull_idle (b : Fin 2) (v : S128x4096.Idx → Elt F .f32) : stFull m d b v ⊢ stIdle m d b := by
  unfold stFull stIdle
  iintro ⟨Hv, HP, ⟨%f, -, Hst⟩⟩
  isplitl [Hv]; · iexact Hv
  isplitl [HP]; · iexact HP
  iexists f; iexact Hst

theorem tr_outWait (b : Fin 2) (o : Fin 2 → Nat) (h) {q : Fin 32} {O : CellTallies nD τ sig Unit} (hO : Above 0 O) :
    Tr m K d Kt iprop(ouBusy m d b q ∗ Ow d O) (outWait b o h) iprop(ouIdle d b ∗ ot d q (OUT m d) ∗ Ow d O) := fun k => by
  unfold ouIdle ouBusy outWait Ow
  iintro ⟨#HC, HF, ⟨%W, HO⟩⟩ Hk
  iapply (wp_waitLocalO EC 𝒱₀ (d : Thread nD τ) none () (dstw := otM o h) (ot_credit h)) $$ [HF HO]
  · isplitl [HF]; · iexact HF
    isplitl [HO]; · iexact HO
    iapply (mayWait d (.dma (outS b)) (b := 0) (by rw [dec_outS]; exact Nat.le_refl 0) hO)
    iapply (ctx_lev m K); iexact HC
  iintro ⟨⟨Ht, Hou⟩, Hv, HO⟩
  iapply Hk
  isplitl [Hv Hou]
  · isplitl [Hv] <;> iassumption
  isplitl [Ht]; · iexact Ht
  iexists _; iexact HO

end Cert.KernelIdeal.Rs

end
-- ==== Proof.Pieces.lean ====
/-
  The pieces that synchronise: the barrier, the sends, the waits for arrivals, and the normalisation of one chunk.
-/
module

public import proofs.«01_k».proof.Proof.Steps

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Gen

variable {F : FTy → Type} [FloatOps F]

local notation "𝕄" => MT nD τ sig Unit (Elt F) ℕ UU ℕ

variable (m : (ℓ : Loc nD τ sig) → Buf (Elt F) ℓ) (K : Dev nD × Cl → ℕ) (d : Dev nD) (Kt : PUnit.{1} → sProp (MT nD τ sig Unit (Elt F) ℕ UU ℕ))

/-! ## Waiting for an arrival or a departure -/

theorem tr_wait (x : Fin 4 × Fin 16) {sem : DmaSem sig} (hs : SemLoc.dma sem = ksem (some x)) {sp sp' : Space} {e e' : EltTy} {s s' : Shape}
    {srcw : Memref sig .tc sp' s' e'} {dstw : Memref sig .tc sp s e} {h1 : srcw.view.WordExact} {h2 : dstw.view.WordExact} (hN : dstw.view.dmaCredit = N)
    {O : CellTallies nD τ sig Unit} (hO : Above (lvl (some (some x))) O) :
    Tr m K d Kt iprop(cred (tallyAt (cell d (some x)) () N) ∗ atPos ER (cell d (some x)) 0 ∅ 0 ∗ Ow d O)
      (fun k => .op (.waitDma2 sem srcw dstw h1 h2) fun _ => k)
      iprop(pay m d (some x) false ∗ atPos ER (cell d (some x)) (0 + 1) ∅ 0 ∗ Ow d O) := fun k => by
  have hcell : cell d (some x) = ((d : Thread nD τ), SemLoc.dma sem) := by rw [hs]
  unfold Ow
  iintro ⟨#HC, Hc, Hat, ⟨%W, HO⟩⟩ Hk
  ihave HI := (ctx_inv m K d (some x)) $$ HC
  ihave HM := ((ctx_lev m K).trans (mayWait d (.dma sem) (b := lvl (some (some x))) (by rw [hs, dec_ksem]) hO)) $$ HC
  rw [hcell]
  iapply (Rounds.wp_wait_rest_token 𝒱₀ ER (Rd m) (d : Thread nD τ) none (κ := K (d, some x))
      (wpE_waitDma2_eq 𝒱₀ (d : Thread nD τ) none Set.univ) (Set.mem_univ _) () (O := O) (W := W) (R := 0) (m := 0) (T := ∅)
      (by rw [Nat.zero_add, hN, ← hcell, expect_some])) $$ [HI Hc HO HM Hat]
  · isplitl [HI]; · iexact HI
    isplitl [Hc]; · rw [hN]; iexact Hc
    isplitl [HO]; · iexact HO
    isplitl [HM]; · iexact HM
    iexact Hat
  iintro ⟨HO, Hat, -, Hpay⟩
  iapply Hk
  isplitl [Hpay]
  · iapply (Entails.of_eq ((congrArg (fun g => bigSep ((Rd (F := F) m).duties g 0 \ ∅) fun d => (Rd (F := F) m).payload g 0 d) hcell).symm.trans (rest_some m d x)))
    iexact Hpay
  isplitl [Hat]; · iexact Hat
  iexists _; iexact HO

/-! ## The sends -/

/-- What lands across `y` is the sent chunk, which the receiver's contents name; likewise across `x`. -/
theorem land_y (r : Fin 16) (f : S4096x4096.Idx → Elt F .bf16) :
    ((rQ (qY d r)).view.loc (yn d : Thread nD τ) ↦[(rQ (qY d r)).view.set]{fullShare}
        ((rQ (qY d r)).view.write (Elt F) f ((sbM r).view.read (Elt F) (SB m d)) Finset.univ) : sProp 𝕄)
      = rb (yn d) (qY d r) fullShare (RB m (yn d)) := by
  unfold rb
  refine pointsTo_congr (write_agree (rQ (qY d r)).view f (RB m (yn d)) _ ?_)
  unfold SB RB
  rw [read_sb, read_rQ, src_yn, yNo_yn]
theorem land_x (r : Fin 16) (f : S4096x4096.Idx → Elt F .bf16) :
    ((rQ (qY d r)).view.loc (xn d : Thread nD τ) ↦[(rQ (qY d r)).view.set]{fullShare}
        ((rQ (qY d r)).view.write (Elt F) f ((rQ (qY d r)).view.read (Elt F) (RB m d)) Finset.univ) : sProp 𝕄)
      = rb (xn d) (qY d r) fullShare (RB m (xn d)) := by
  unfold rb
  refine pointsTo_congr (write_agree (rQ (qY d r)).view f (RB m (xn d)) _ ?_)
  unfold RB
  rw [read_rQ, read_rQ, src_xn, yOf_xn]

/-- Sending a chunk to `c'`, its departure announced by `x₁` and its arrival by `x₂`. -/
theorem tr_send (c' : Dev nD) (x₁ x₂ : Fin 4 × Fin 16) {s₁ s₂ : DmaSem sig} (hs₁ : SemLoc.dma s₁ = ksem (some x₁)) (hs₂ : SemLoc.dma s₂ = ksem (some x₂))
    {src dst : Memref sig .tc .vmem S128x4096 .bf16} {hsc : dst.view.ref.isScScratch = false} {hsrc : src.view.WordExact} {hdst : dst.view.WordExact}
    {hsem : DmaTarget.Typed .vmem (.dma s₂) (.remote (Dev.tc c' : Thread nD τ) dst (.dma s₁) hsc)} (hN : dst.view.dmaCredit = N)
    (O : CellTallies nD τ sig Unit) {q : PosShare TreeShare} (fs : Buf (Elt F) (src.view.loc (d : Thread nD τ))) (f : Buf (Elt F) (dst.view.loc (c' : Thread nD τ)))
    (hpay₁ : (src.view.loc (d : Thread nD τ) ↦[src.view.set]{q} fs : sProp 𝕄) ⊢ pay m d (some x₁) false)
    (hpay₂ : (dst.view.loc (c' : Thread nD τ) ↦[dst.view.set]{fullShare} (dst.view.write (Elt F) f (src.view.read (Elt F) fs) Finset.univ) : sProp 𝕄)
      ⊢ pay m c' (some x₂) false) :
    Tr m K d Kt iprop((src.view.loc (d : Thread nD τ) ↦[src.view.set]{q} fs) ∗ (dst.view.loc (c' : Thread nD τ) ↦[dst.view.set]{fullShare} f)
        ∗ dutyTok ER (cell d (some x₁)) 0 false ∗ dutyTok ER (cell c' (some x₂)) 0 false ∗ Ow d (O + tallyAt (cell c' (some x₂)) () N))
      (fun k => .op (.enqueueDma src (.remote (Dev.tc c') dst (.dma s₁) hsc) (.dma s₂) hsrc hdst hsem) fun _ => k)
      iprop(cred (tallyAt (cell d (some x₁)) () N) ∗ Ow d O) := fun k => by
  have h₁ : cell d (some x₁) = ((d : Thread nD τ), SemLoc.dma s₁) := by rw [hs₁]
  have h₂ : cell c' (some x₂) = ((c' : Thread nD τ), SemLoc.dma s₂) := by rw [hs₂]
  have e₁ := mem_some m d x₁
  have e₂ := mem_some m c' x₂
  have a₁ := amount_cell m d (some x₁) false
  have a₂ := amount_cell m c' (some x₂) false
  have p₁ := payload_cell m d (some x₁) false
  have p₂ := payload_cell m c' (some x₂) false
  have i₁ := ctx_inv m K d (some x₁)
  have i₂ := ctx_inv m K c' (some x₂)
  have r₁ := ctx_reached m K d (some x₁)
  have r₂ := ctx_reached m K c' (some x₂)
  rw [h₁] at e₁ a₁ p₁ i₁ r₁
  rw [h₂] at e₂ a₂ p₂ i₂ r₂
  rw [h₁, h₂]
  unfold Ow
  iintro ⟨#HC, Hs, Hd, Ht1, Ht2, ⟨%W, HO⟩⟩ Hk
  iapply (Rounds.wp_send_pointsTo 𝒱₀ ER (Rd m) (d : Thread nD τ) none (κ₁ := K (d, some x₁)) (κ₂ := K (c', some x₂)) (sS := .dma s₁) (sem := .dma s₂)
    (r₁ := 0) (r₂ := 0) (d₁ := false) (d₂ := false) (fd := f) (fs := fs) (q := q) e₁ e₂ () () N hN a₁ a₂ O rfl (W := W)
    (hpay₁.trans (Entails.of_eq p₁.symm)) (hpay₂.trans (Entails.of_eq p₂.symm)))
    $$ [Hs Hd HO Ht1 Ht2]
  · isplitr; · iapply i₁; iexact HC
    isplitr; · iapply i₂; iexact HC
    isplitl [Hs]; · iexact Hs
    isplitl [Hd]; · iexact Hd
    isplitl [HO]; · iexact HO
    isplitl [Ht1]; · iexact Ht1
    isplitr; · iapply r₁; iexact HC
    isplitl [Ht2]; · iexact Ht2
    iapply r₂; iexact HC
  iintro ⟨Hc, HO⟩
  iapply Hk
  isplitl [Hc]; · iexact Hc
  iexists _; iexact HO

theorem ksem_sendY (r : Fin 16) : SemLoc.dma (sendY r) = ksem (some (0, r)) := by revert r; decide +kernel
theorem ksem_recvY (r : Fin 16) : SemLoc.dma (recvY r) = ksem (some (1, r)) := by revert r; decide +kernel
theorem ksem_sendX (r : Fin 16) : SemLoc.dma (sendX r) = ksem (some (2, r)) := by revert r; decide +kernel
theorem ksem_recvX (r : Fin 16) : SemLoc.dma (recvX r) = ksem (some (3, r)) := by revert r; decide +kernel
theorem pay_sendY (r : Fin 16) (b : Bool) : pay m d (some (0, r)) b = sb d r (SB m d) := by simp only [pay]
theorem pay_recvY (r : Fin 16) (b : Bool) : pay m d (some (1, r)) b = rb d (qY d r) fullShare (RB m d) := by simp only [pay]
theorem pay_sendX (r : Fin 16) (b : Bool) : pay m d (some (2, r)) b = rb d (qY d r) fullShare.left (RB m d) := by simp only [pay]
theorem pay_recvX (r : Fin 16) (b : Bool) : pay m d (some (3, r)) b = rb d (qX d r) fullShare (RB m d) := by simp only [pay]

theorem tr_sendY (r : Fin 16) {M : Memref sig .tc .vmem S128x4096 .bf16} (hM : M = rQ (qY d r))
    {hsc : M.view.ref.isScScratch = false} {hsrc : (sbM r).view.WordExact} {hdst : M.view.WordExact}
    {hsem : DmaTarget.Typed .vmem (.dma (recvY r)) (.remote (Dev.tc (yn d) : Thread nD τ) M (.dma (sendY r)) hsc)}
    (O : CellTallies nD τ sig Unit) :
    Tr m K d Kt iprop(sb d r (SB m d) ∗ lend (yn d) (qY d r) ∗ dutyTok ER (cell d (some (0, r))) 0 false ∗ dutyTok ER (cell (yn d) (some (1, r))) 0 false
        ∗ Ow d (O + tallyAt (cell (yn d) (some (1, r))) () N))
      (fun k => .op (.enqueueDma (sbM r) (.remote (Dev.tc (yn d)) M (.dma (sendY r)) hsc) (.dma (recvY r)) hsrc hdst hsem) fun _ => k)
      iprop(cred (tallyAt (cell d (some (0, r))) () N) ∗ Ow d O) := by
  subst hM
  intro k
  unfold lend sb rb
  iintro ⟨#HC, Hs, ⟨%f, Hd⟩, Ht1, Ht2, HO⟩ Hk
  have h := tr_send m K d Kt (yn d) (0, r) (1, r) (ksem_sendY r) (ksem_recvY r) (hsc := hsc) (hsrc := hsrc) (hdst := hdst) (hsem := hsem) (rb_credit _) O
    (q := fullShare) (SB m d) f (by rw [pay_sendY]; unfold sb; exact Entails.refl _) (Entails.of_eq ((land_y m d r f).trans (by rw [pay_recvY, qY_yn])))
  iapply (h k) $$ [Hs Hd Ht1 Ht2 HO]
  · isplitr; · iexact HC
    isplitl [Hs]; · iexact Hs
    isplitl [Hd]; · iexact Hd
    isplitl [Ht1]; · iexact Ht1
    isplitl [Ht2] <;> iassumption
  iexact Hk

theorem tr_sendX (r : Fin 16) {M : Memref sig .tc .vmem S128x4096 .bf16} (hM : M = rQ (qY d r))
    {hsc : M.view.ref.isScScratch = false} {hsrc : M.view.WordExact} {hdst : M.view.WordExact}
    {hsem : DmaTarget.Typed .vmem (.dma (recvX r)) (.remote (Dev.tc (xn d) : Thread nD τ) M (.dma (sendX r)) hsc)}
    (O : CellTallies nD τ sig Unit) :
    Tr m K d Kt iprop(rb d (qY d r) fullShare.left (RB m d) ∗ lend (xn d) (qY d r) ∗ dutyTok ER (cell d (some (2, r))) 0 false ∗ dutyTok ER (cell (xn d) (some (3, r))) 0 false
        ∗ Ow d (O + tallyAt (cell (xn d) (some (3, r))) () N))
      (fun k => .op (.enqueueDma M (.remote (Dev.tc (xn d)) M (.dma (sendX r)) hsc) (.dma (recvX r)) hsrc hdst hsem) fun _ => k)
      iprop(cred (tallyAt (cell d (some (2, r))) () N) ∗ Ow d O) := by
  subst hM
  intro k
  unfold lend rb
  iintro ⟨#HC, Hs, ⟨%f, Hd⟩, Ht1, Ht2, HO⟩ Hk
  have h := tr_send m K d Kt (xn d) (2, r) (3, r) (ksem_sendX r) (ksem_recvX r) (hsc := hsc) (hsrc := hsrc) (hdst := hdst) (hsem := hsem) (rb_credit _) O
    (q := fullShare.left) (RB m d) f (by rw [pay_sendX]; unfold rb; exact Entails.refl _) (Entails.of_eq ((land_x m d r f).trans (by rw [pay_recvX, qX_xn])))
  iapply (h k) $$ [Hs Hd Ht1 Ht2 HO]
  · isplitr; · iexact HC
    isplitl [Hs]; · iexact Hs
    isplitl [Hd]; · iexact Hd
    isplitl [Ht1]; · iexact Ht1
    isplitl [Ht2] <;> iassumption
  iexact Hk

end Cert.KernelIdeal.Rs

end
-- ==== Proof.Chunks.lean ====
/-
  The pieces of a chunk: filling the send buffer and sending, receiving and forwarding, normalising and copying out.
-/
module

public import proofs.«01_k».proof.Proof.Pieces

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Gen

variable {F : FTy → Type} [FloatOps F]

local notation "𝕄" => MT nD τ sig Unit (Elt F) ℕ UU ℕ

variable (m : (ℓ : Loc nD τ sig) → Buf (Elt F) ℓ) (K : Dev nD × Cl → ℕ) (d : Dev nD) (Kt : PUnit.{1} → sProp (MT nD τ sig Unit (Elt F) ℕ UU ℕ))

/-! ## Loads and stores -/

theorem cover_st (b : Fin 2) : (Memref.whole cc0_scratch2).view.setOn (slotR b).toLoadRect.set ⊆ (stM b).view.set := by
  rw [stM_set]; exact (Finset.map_refl).subset
theorem cover_rb (q : Fin 32) : (Memref.whole cc0_scratch0).view.setOn (rowR (rO q) (rO_inb q)).toLoadRect.set ⊆ (rQ q).view.set := by
  rw [rQ_set]; exact (Finset.map_refl).subset
theorem cover_sb (r : Fin 16) : (Memref.whole cc0_scratch1).view.setOn (sbR r).toLoadRect.set ⊆ (sbM r).view.set := by
  rw [sbM_set]; exact (Finset.map_refl).subset
theorem cover_ou (b : Fin 2) : (Memref.whole cc0_scratch3).view.setOn (slotR b).toLoadRect.set ⊆ (ouM b).view.set := by
  rw [ouM_set]; exact (Finset.map_refl).subset

theorem ld_st (b : Fin 2) (f : S2x128x4096.Idx → Elt F .f32) {hl} (k : (S1x128x4096.Idx → Elt F .f32) → Pg F) :
    st d b f ⊢ iprop((st d b f -∗ Run d Kt (k ((Memref.whole cc0_scratch2).view.readAt (Elt F) (slotR b).toLoadRect f)))
      -∗ Run d Kt (.op (.load (Memref.whole cc0_scratch2) (slotR b).toLoadRect hl) k)) := by
  unfold st
  exact wp_load 𝒱₀ (d : Thread nD τ) none Set.univ (m := Memref.whole cc0_scratch2) (cover_st b)
theorem ld_rb (q : Fin 32) (s : PosShare TreeShare) (f : S4096x4096.Idx → Elt F .bf16) {hl} (k : (S128x4096.Idx → Elt F .bf16) → Pg F) :
    rb d q s f ⊢ iprop((rb d q s f -∗ Run d Kt (k ((rQ q).view.read (Elt F) f)))
      -∗ Run d Kt (.op (.load (Memref.whole cc0_scratch0) (rowR (rO q) (rO_inb q)).toLoadRect hl) k)) := by
  unfold rb
  exact wp_load 𝒱₀ (d : Thread nD τ) none Set.univ (m := Memref.whole cc0_scratch0) (cover_rb q)
theorem ld_sb (r : Fin 16) (f : S2048x4096.Idx → Elt F .bf16) {hl} (k : (S128x4096.Idx → Elt F .bf16) → Pg F) :
    sb d r f ⊢ iprop((sb d r f -∗ Run d Kt (k ((sbM r).view.read (Elt F) f)))
      -∗ Run d Kt (.op (.load (Memref.whole cc0_scratch1) (sbR r).toLoadRect hl) k)) := by
  unfold sb
  exact wp_load 𝒱₀ (d : Thread nD τ) none Set.univ (m := Memref.whole cc0_scratch1) (cover_sb r)
theorem ld_ou (b : Fin 2) (f : S2x128x4096.Idx → Elt F .f32) {hl} (k : (S1x128x4096.Idx → Elt F .f32) → Pg F) :
    ou d b f ⊢ iprop((ou d b f -∗ Run d Kt (k ((Memref.whole cc0_scratch3).view.readAt (Elt F) (slotR b).toLoadRect f)))
      -∗ Run d Kt (.op (.load (Memref.whole cc0_scratch3) (slotR b).toLoadRect hl) k)) := by
  unfold ou
  exact wp_load 𝒱₀ (d : Thread nD τ) none Set.univ (m := Memref.whole cc0_scratch3) (cover_ou b)
theorem put_sb (r : Fin 16) (f : S2048x4096.Idx → Elt F .bf16) (w : S128x4096.Idx → Elt F .bf16) {hx} {hm} (k : PUnit → Pg F) :
    sb d r f ⊢ iprop((sb d r ((sbM r).view.write (Elt F) f w Finset.univ) -∗ Run d Kt (k ⟨⟩))
      -∗ Run d Kt (.op (.store (Memref.whole cc0_scratch1) (sbR r) w Finset.univ hx hm) k)) := by
  unfold sb
  exact wp_store 𝒱₀ (d : Thread nD τ) none Set.univ (m := Memref.whole cc0_scratch1) (r := sbR r) (Mk := Finset.univ) (Finset.Subset.refl _)
theorem put_ou (b : Fin 2) (f : S2x128x4096.Idx → Elt F .f32) (w : S1x128x4096.Idx → Elt F .f32) {hx} {hm} (k : PUnit → Pg F) :
    ou d b f ⊢ iprop((ou d b (((Memref.whole cc0_scratch3).access (slotR b)).write (Elt F) f w Finset.univ) -∗ Run d Kt (k ⟨⟩))
      -∗ Run d Kt (.op (.store (Memref.whole cc0_scratch3) (slotR b) w Finset.univ hx hm) k)) := by
  unfold ou
  exact wp_store 𝒱₀ (d : Thread nD τ) none Set.univ (m := Memref.whole cc0_scratch3) (r := slotR b) (Mk := Finset.univ)
    (by rw [ouM_set]; exact (View.set_slice_whole _ _).subset)

/-! ## The values -/

theorem narrow_eq (b : Fin 2) (f : S2x128x4096.Idx → Elt F .f32) :
    narrow ((Memref.whole cc0_scratch2).view.readAt (Elt F) (slotR b).toLoadRect f) = nar ((stM b).view.read (Elt F) f) := rfl
theorem stored_sb (r : Fin 16) (f : S2048x4096.Idx → Elt F .bf16) (v : S128x4096.Idx → Elt F .f32) (hv : v = PC m d (yNo d) (qY d r)) :
    (sb d r ((sbM r).view.write (Elt F) f (nar v) Finset.univ) : sProp 𝕄) = sb d r (SB m d) := by
  subst hv
  unfold sb
  exact pointsTo_congr (write_agree (sbM r).view f (SB m d) _ (by unfold SB; rw [read_sb]))
theorem comp_eq (b : Fin 2) (f : S2x128x4096.Idx → Elt F .f32) (w : S128x4096.Idx → Elt F .bf16) (g : S4096.Idx → Elt F .f32) :
    comp ((Memref.whole cc0_scratch2).view.readAt (Elt F) (slotR b).toLoadRect f) w g
      = shapeCast S1x128x4096 (comp2 ((stM b).view.read (Elt F) f) w g) shapeCasts_S128x4096_S1x128x4096 := rfl
theorem read_stored_ou (b : Fin 2) (f : S2x128x4096.Idx → Elt F .f32) (v : S128x4096.Idx → Elt F .f32) :
    (ouM b).view.read (Elt F) (((Memref.whole cc0_scratch3).access (slotR b)).write (Elt F) f (shapeCast S1x128x4096 v shapeCasts_S128x4096_S1x128x4096) Finset.univ) = v := by
  have h : (ouM b).view.read (Elt F) (((Memref.whole cc0_scratch3).access (slotR b)).write (Elt F) f (shapeCast S1x128x4096 v shapeCasts_S128x4096_S1x128x4096) Finset.univ)
      = shapeCast S128x4096 (((Memref.whole cc0_scratch3).access (slotR b)).read (Elt F)
          (((Memref.whole cc0_scratch3).access (slotR b)).write (Elt F) f (shapeCast S1x128x4096 v shapeCasts_S128x4096_S1x128x4096) Finset.univ)) shapeCasts_S1x128x4096_S128x4096 := rfl
  rw [h, View.read_write_univ]
  exact shapeCast_shapeCast _ _ _

/-! ## The pieces -/

theorem tr_sendOne (r : Fin 16) (b : Fin 2) {O : CellTallies nD τ sig Unit} (hO : Above 0 (O + tallyAt (cell (yn d) (some (1, r))) () N)) :
    Tr m K d Kt iprop(stBusy m d b (yNo d) (qY d r) ∗ ((∃ f, sb d r f) ∗ lend (yn d) (qY d r) ∗ dutyTok ER (cell d (some (0, r))) 0 false ∗ dutyTok ER (cell (yn d) (some (1, r))) 0 false)
        ∗ Ow d (O + tallyAt (cell (yn d) (some (1, r))) () N))
      (sendOne d r b)
      iprop(stIdle m d b ∗ cred (tallyAt (cell d (some (0, r))) () N) ∗ Ow d O) := fun k => by
  unfold sendOne
  iintro ⟨#HC, Hb, ⟨⟨%f, Hs⟩, Hl, Ht1, Ht2⟩, HO⟩ Hk
  iapply (tr_ldWait m K d Kt b _ _ hO _) $$ [Hb HO]
  · isplitr; · iexact HC
    isplitl [Hb] <;> iassumption
  iintro ⟨Hst, HO⟩
  unfold stFull
  icases Hst with ⟨Hv, HP, ⟨%g, %hg, Hst⟩⟩
  iapply (ld_st d Kt b g _) $$ Hst
  iintro Hst
  iapply (ld_sb d Kt r f _) $$ Hs
  iintro Hs
  rw [narrow_eq]
  iapply (put_sb d Kt r f _ _) $$ Hs
  iintro Hs
  ihave Hs := (Entails.of_eq (stored_sb m d r f _ hg)) $$ Hs
  iapply (tr_sendY m K d Kt r (ownM_eq d r) O _) $$ [Hs Hl Ht1 Ht2 HO]
  · isplitr; · iexact HC
    isplitl [Hs]; · iexact Hs
    isplitl [Hl]; · iexact Hl
    isplitl [Ht1]; · iexact Ht1
    isplitl [Ht2] <;> iassumption
  iintro ⟨Hc, HO⟩
  iapply Hk
  isplitr [Hc HO]
  · unfold stIdle
    isplitl [Hv]; · iexact Hv
    isplitl [HP]; · iexact HP
    iexists g; iexact Hst
  isplitl [Hc] <;> iassumption

theorem rb_share (q : Fin 32) (f : S4096x4096.Idx → Elt F .bf16) :
    (rb d q fullShare f : sProp 𝕄) ⊣⊢ iprop(rb d q fullShare.left f ∗ rb d q fullShare.right f) := by
  unfold rb; exact pointsTo_share (PosShare.mem_left_op_right fullShare)

theorem tr_recvFwd (r : Fin 16) {O : CellTallies nD τ sig Unit} (hO : Above 2 (O + tallyAt (cell (xn d) (some (3, r))) () N)) :
    Tr m K d Kt iprop((cred (tallyAt (cell d (some (1, r))) () N) ∗ atPos ER (cell d (some (1, r))) 0 ∅ 0 ∗ lend (xn d) (qY d r) ∗ dutyTok ER (cell d (some (2, r))) 0 false ∗ dutyTok ER (cell (xn d) (some (3, r))) 0 false)
        ∗ Ow d (O + tallyAt (cell (xn d) (some (3, r))) () N))
      (recvFwd d r)
      iprop((rb d (qY d r) fullShare.right (RB m d) ∗ atPos ER (cell d (some (1, r))) (0 + 1) ∅ 0 ∗ cred (tallyAt (cell d (some (2, r))) () N)) ∗ Ow d O) := fun k => by
  unfold recvFwd
  iintro ⟨#HC, ⟨Hc, Hat, Hl, Ht1, Ht2⟩, HO⟩ Hk
  iapply (tr_wait m K d Kt (1, r) (ksem_recvY r) (dstw := ownM d r) (by rw [ownM_eq]) hO _) $$ [Hc Hat HO]
  · isplitr; · iexact HC
    isplitl [Hc]; · iexact Hc
    isplitl [Hat] <;> iassumption
  rw [pay_recvY]
  iintro ⟨Hr, Hat, HO⟩
  ihave Hr := (rb_share d (qY d r) (RB m d)).1 $$ Hr
  icases Hr with ⟨Hr1, Hr2⟩
  iapply (tr_sendX m K d Kt r (ownM_eq d r) O _) $$ [Hr1 Hl Ht1 Ht2 HO]
  · isplitr; · iexact HC
    isplitl [Hr1]; · iexact Hr1
    isplitl [Hl]; · iexact Hl
    isplitl [Ht1]; · iexact Ht1
    isplitl [Ht2] <;> iassumption
  iintro ⟨Hc, HO⟩
  iapply Hk
  isplitr [HO]
  · isplitl [Hr2]; · iexact Hr2
    isplitl [Hat] <;> iassumption
  iexact HO

theorem tr_recvOther (r : Fin 16) {O : CellTallies nD τ sig Unit} (hO : Above (3 + r.val) O) :
    Tr m K d Kt iprop((cred (tallyAt (cell d (some (3, r))) () N) ∗ atPos ER (cell d (some (3, r))) 0 ∅ 0) ∗ Ow d O)
      (recvOther d r)
      iprop((rb d (qX d r) fullShare (RB m d) ∗ atPos ER (cell d (some (3, r))) (0 + 1) ∅ 0) ∗ Ow d O) := fun k => by
  unfold recvOther
  iintro ⟨#HC, ⟨Hc, Hat⟩, HO⟩ Hk
  iapply (tr_wait m K d Kt (3, r) (ksem_recvX r) (dstw := ownM d r) (by rw [ownM_eq]) hO _) $$ [Hc Hat HO]
  · isplitr; · iexact HC
    isplitl [Hc]; · iexact Hc
    isplitl [Hat] <;> iassumption
  rw [pay_recvX]
  iintro ⟨Hr, Hat, HO⟩
  iapply Hk
  isplitr [HO]
  · isplitl [Hr] <;> iassumption
  iexact HO

theorem tr_sentWait (r : Fin 16) :
    Tr m K d Kt iprop((cred (tallyAt (cell d (some (0, r))) () N) ∗ cred (tallyAt (cell d (some (2, r))) () N)
          ∗ atPos ER (cell d (some (0, r))) 0 ∅ 0 ∗ atPos ER (cell d (some (2, r))) 0 ∅ 0) ∗ Ow d 0)
      (sentWait d r)
      iprop((sb d r (SB m d) ∗ rb d (qY d r) fullShare.left (RB m d)
          ∗ atPos ER (cell d (some (0, r))) (0 + 1) ∅ 0 ∗ atPos ER (cell d (some (2, r))) (0 + 1) ∅ 0) ∗ Ow d 0) := fun k => by
  unfold sentWait
  iintro ⟨#HC, ⟨Hc1, Hc2, Hat1, Hat2⟩, HO⟩ Hk
  iapply (tr_wait m K d Kt (0, r) (ksem_sendY r) (dstw := sbM r) (sb_credit r) (above_zero _) _) $$ [Hc1 Hat1 HO]
  · isplitr; · iexact HC
    isplitl [Hc1]; · iexact Hc1
    isplitl [Hat1] <;> iassumption
  rw [pay_sendY]
  iintro ⟨Hs, Hat1, HO⟩
  iapply (tr_wait m K d Kt (2, r) (ksem_sendX r) (dstw := ownM d r) (by rw [ownM_eq]) (above_zero _) _) $$ [Hc2 Hat2 HO]
  · isplitr; · iexact HC
    isplitl [Hc2]; · iexact Hc2
    isplitl [Hat2] <;> iassumption
  rw [pay_sendX]
  iintro ⟨Hr, Hat2, HO⟩
  iapply Hk
  isplitr [HO]
  · isplitl [Hs]; · iexact Hs
    isplitl [Hr]; · iexact Hr
    isplitl [Hat1] <;> iassumption
  iexact HO

/-! ### Normalising a chunk -/

theorem ex_ou (b : Fin 2) (f : S2x128x4096.Idx → Elt F .f32) :
    ((ouM b).view.loc (d : Thread nD τ) ↦[(ouM b).view.set]{fullShare} f : sProp 𝕄) ⊢ iprop(∃ f, (ouM b).view.loc (d : Thread nD τ) ↦[(ouM b).view.set]{fullShare} f) := by
  iintro H; iexists f; iexact H

/-- The copy of a normalised chunk to its rows of the result. -/
theorem landed_ot (b : Fin 2) (q : Fin 32) (f : S2x128x4096.Idx → Elt F .f32) (ft : S4096x4096.Idx → Elt F .f32)
    (hf : (ouM b).view.read (Elt F) f = comp2 (PC m d (yOf d) q) ((rQ q).view.read (Elt F) (RB m d)) (GM m d)) :
    ((oQ q).view.loc (d : Thread nD τ) ↦[(oQ q).view.set]{fullShare} ((oQ q).view.write (Elt F) ft ((ouM b).view.read (Elt F) f) Finset.univ) : sProp 𝕄)
      ⊢ ot d q (OUT m d) := by
  unfold ot
  refine Entails.of_eq (pointsTo_congr (write_agree (oQ q).view ft (OUT m d) _ ?_))
  unfold RB at hf
  rw [hf, read_rQ]
  unfold OUT
  rw [read_oQ]

theorem tr_outStart (b : Fin 2) {q : Fin 32} (h) (f : S2x128x4096.Idx → Elt F .f32) (ft : S4096x4096.Idx → Elt F .f32) {h1 h2 h3} (k : PUnit → Pg F)
    (hf : (ouM b).view.read (Elt F) f = comp2 (PC m d (yOf d) q) ((rQ q).view.read (Elt F) (RB m d)) (GM m d)) :
    iprop(ou d b f ∗ ot d q ft ∗ semVal ((d : Thread nD τ), .dma (outS b)) 0)
      ⊢ iprop((ouBusy m d b q -∗ Run d Kt (k ⟨⟩)) -∗ Run d Kt (.op (.enqueueDma (ouM b) (.here (otM (rO q) h)) (.dma (outS b)) h1 h2 h3) k)) := by
  unfold ou ot ouBusy
  iintro ⟨Ho, Ht, Hs⟩ Hk
  iapply (wp_dmaLocal EC 𝒱₀ (d : Thread nD τ) none (src := ouM b) (dst := oQ q) (via := .same) (sm := .dma (outS b)) (q := fullShare) (fs := f) (fd := ft)
    () NI (ot_credit h) NI_pos (Finset.Subset.refl _)) $$ [Ho Ht Hs]
  · isplitl [Ho]; · iexact Ho
    isplitl [Ht] <;> iassumption
  iintro HF
  iapply Hk
  iapply (Flight_mono EC (d : Thread nD τ) (BIClass.sep_mono (landed_ot m d b q f ft hf) (ex_ou d b f))) $$ HF

/-- The scale, staged. -/
def gam (gM : Memref sig .tc .vmem S4096 .f32) : sProp 𝕄 :=
  iprop(∃ g : Buf (Elt F) (gM.view.loc (d : Thread nD τ)), ⌜gM.view.readAt (Elt F) (Rect.unit (s := S4096) ![0] S4096.size inb_S4096_S4096_0).toLoadRect g = GM m d⌝
    ∗ (gM.view.loc (d : Thread nD τ) ↦[Finset.univ]{fullShare} g))

theorem tr_finish (gM : Memref sig .tc .vmem S4096 .f32) (b : Fin 2) {op : Fin 3 → Nat} (hp) {ob : Fin 2 → Nat} (hb) {oo : Fin 2 → Nat} (ho) {q : Fin 32}
    (eb : ob = rO q) (eo : oo = rO q) (sh : PosShare TreeShare) (w : Pg F → Pg F) (X Y : sProp 𝕄) {O : CellTallies nD τ sig Unit} (hO : Above 0 O)
    (hw : Tr m K d Kt iprop(X ∗ Ow d O) w iprop(ouIdle d b ∗ Y ∗ Ow d O)) :
    Tr m K d Kt iprop(stBusy m d b (yOf d) q ∗ rb d q sh (RB m d) ∗ gam m d gM ∗ (∃ f, ot d q f) ∗ X ∗ Ow d O)
      (finish gM b op hp ob hb oo ho w)
      iprop(stIdle m d b ∗ rb d q sh (RB m d) ∗ gam m d gM ∗ ouBusy m d b q ∗ Y ∗ Ow d O) := fun k => by
  subst eb eo
  unfold finish
  iintro ⟨#HC, Hb, Hr, Hg, ⟨%ft, Ht⟩, HX, HO⟩ Hk
  iapply (tr_ldWait m K d Kt b _ _ hO _) $$ [Hb HO]
  · isplitr; · iexact HC
    isplitl [Hb] <;> iassumption
  iintro ⟨Hst, HO⟩
  unfold stFull
  icases Hst with ⟨Hv, HP, ⟨%f, %hf, Hst⟩⟩
  iapply (ld_st d Kt b f _) $$ Hst
  iintro Hst
  iapply (ld_rb d Kt q sh _ _) $$ Hr
  iintro Hr
  iapply (hw _) $$ [HX HO]
  · isplitr; · iexact HC
    isplitl [HX] <;> iassumption
  unfold ouIdle
  iintro ⟨⟨Hs, ⟨%fo, Ho⟩⟩, HY, HO⟩
  unfold gam
  icases Hg with ⟨%g, %hg, Hg⟩
  iapply (wp_load 𝒱₀ (d : Thread nD τ) none Set.univ (m := gM) (Finset.subset_univ _)) $$ Hg
  iintro Hg
  iapply (ld_ou d Kt b fo _) $$ Ho
  iintro Ho
  rw [hg, comp_eq, hf]
  iapply (put_ou d Kt b fo _ _) $$ Ho
  iintro Ho
  iapply (tr_outStart m d Kt b ho _ ft _ (read_stored_ou b fo _)) $$ [Ho Ht Hs]
  · isplitl [Ho]; · iexact Ho
    isplitl [Ht] <;> iassumption
  iintro HF
  iapply Hk
  isplitl [Hv HP Hst]
  · unfold stIdle
    isplitl [Hv]; · iexact Hv
    isplitl [HP]; · iexact HP
    iexists f; iexact Hst
  isplitl [Hr]; · iexact Hr
  isplitl [Hg]
  · iexists g
    isplitr; · ipureintro; exact hg
    iexact Hg
  isplitl [HF]; · iexact HF
  isplitl [HY] <;> iassumption

end Cert.KernelIdeal.Rs

end
-- ==== Proof.Phases.lean ====
/-
  The phases of the body: filling and sending the quarter, receiving, forwarding and normalising, and waiting for the sends.
-/
module

public import proofs.«01_k».proof.Proof.Chunks

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Gen

variable {F : FTy → Type} [FloatOps F]

local notation "𝕄" => MT nD τ sig Unit (Elt F) ℕ UU ℕ

variable (m : (ℓ : Loc nD τ sig) → Buf (Elt F) ℓ) (K : Dev nD × Cl → ℕ) (d : Dev nD) (Kt : PUnit.{1} → sProp (MT nD τ sig Unit (Elt F) ℕ UU ℕ))

/-! ## What a chunk needs in each phase, and what it leaves -/

def A1 (i : Fin 16) : sProp 𝕄 :=
  iprop((∃ f, sb d i f) ∗ lend (yn d) (qY d i) ∗ dutyTok ER (cell d (some (0, i))) 0 false ∗ dutyTok ER (cell (yn d) (some (1, i))) 0 false)
def B1 (i : Fin 16) : sProp 𝕄 := cred (tallyAt (cell d (some (0, i))) () N)
def A2 (i : Fin 16) : sProp 𝕄 :=
  iprop((cred (tallyAt (cell d (some (1, i))) () N) ∗ atPos ER (cell d (some (1, i))) 0 ∅ 0 ∗ lend (xn d) (qY d i) ∗ dutyTok ER (cell d (some (2, i))) 0 false
    ∗ dutyTok ER (cell (xn d) (some (3, i))) 0 false) ∗ ∃ f, ot d (qY d i) f)
def B2 (i : Fin 16) : sProp 𝕄 :=
  iprop(rb d (qY d i) fullShare.right (RB m d) ∗ atPos ER (cell d (some (1, i))) (0 + 1) ∅ 0 ∗ cred (tallyAt (cell d (some (2, i))) () N))
def A3 (i : Fin 16) : sProp 𝕄 :=
  iprop((cred (tallyAt (cell d (some (3, i))) () N) ∗ atPos ER (cell d (some (3, i))) 0 ∅ 0) ∗ ∃ f, ot d (qX d i) f)
def B3 (i : Fin 16) : sProp 𝕄 := iprop(rb d (qX d i) fullShare (RB m d) ∗ atPos ER (cell d (some (3, i))) (0 + 1) ∅ 0)
def A4 (i : Fin 16) : sProp 𝕄 :=
  iprop(cred (tallyAt (cell d (some (0, i))) () N) ∗ cred (tallyAt (cell d (some (2, i))) () N)
    ∗ atPos ER (cell d (some (0, i))) 0 ∅ 0 ∗ atPos ER (cell d (some (2, i))) 0 ∅ 0)
def B4 (i : Fin 16) : sProp 𝕄 :=
  iprop(sb d i (SB m d) ∗ rb d (qY d i) fullShare.left (RB m d) ∗ atPos ER (cell d (some (0, i))) (0 + 1) ∅ 0 ∗ atPos ER (cell d (some (2, i))) (0 + 1) ∅ 0)
def DY (i : Fin 16) : sProp 𝕄 := ot d (qY d i) (OUT m d)
def DX (i : Fin 16) : sProp 𝕄 := ot d (qX d i) (OUT m d)
/-- The first `n` chunks finished. -/
def dn (n : ℕ) (D : Fin 16 → sProp 𝕄) : sProp 𝕄 := pr n (fun _ => iprop(emp)) D

theorem dn_zero (D : Fin 16 → sProp 𝕄) : iprop(emp) ⊢ dn (F := F) 0 D := by
  unfold dn; rw [pr_zero]; exact BIBase.Entails.of_eq (bigSep_emp_const _).symm
theorem dn_all (D : Fin 16 → sProp 𝕄) : dn (F := F) 16 D ⊢ bigSep Finset.univ D := BIBase.Entails.of_eq (pr_all _ D)
theorem dn_step (n : ℕ) (h : n < 16) (D : Fin 16 → sProp 𝕄) : iprop(dn n D ∗ D (ck n)) ⊢ dn (F := F) (n + 1) D := by
  unfold dn
  iintro ⟨H, HD⟩
  ihave H := (pr_step n h _ D) $$ H
  icases H with ⟨-, Hk⟩
  iapply Hk; iexact HD

/-! ## The barrier -/

theorem pay_bar_y : (pay m (yn d) none false : sProp 𝕄) = bigSep Finset.univ fun r : Fin 16 => lend d (qY d r) := by
  simp only [pay, yn_yn, qY_yn]
theorem pay_bar_x : (pay m (xn d) none true : sProp 𝕄) = bigSep Finset.univ fun r : Fin 16 => lend d (qX d r) := by
  simp only [pay, xn_xn, qY_xn]

theorem tr_phase0 {O : CellTallies nD τ sig Unit} (hO : Above 1 O) :
    Tr m K d Kt iprop((bigSep Finset.univ fun r : Fin 16 => lend d (qY d r)) ∗ (bigSep Finset.univ fun r : Fin 16 => lend d (qX d r))
        ∗ dutyTok ER (cell (yn d) none) 0 false ∗ dutyTok ER (cell (xn d) none) 0 true ∗ cred (tallyAt (cell d none) () 2) ∗ atPos ER (cell d none) 0 ∅ 0
        ∗ Ow d (O + tallyAt (cell (xn d) none) () 1 + tallyAt (cell (yn d) none) () 1))
      (fun k => .op (.semSignal (yn d, .tc) barS (1#32 : BitVec 32).toInt) fun _ => .op (.semSignal (xn d, .tc) barS (1#32 : BitVec 32).toInt) fun _ =>
        .op (.semWait barS (2#32 : BitVec 32).toInt) fun _ => k)
      iprop((bigSep Finset.univ fun r : Fin 16 => lend (yn d) (qY d r)) ∗ (bigSep Finset.univ fun r : Fin 16 => lend (xn d) (qY d r))
        ∗ atPos ER (cell d none) (0 + 1) ∅ 0 ∗ Ow d O) := fun k => by
  have hc (c : Dev nD) : cell c none = ((c : Thread nD τ), SemLoc.reg barS) := rfl
  have e₁ := mem_bar m (yn d) false
  have e₂ := mem_bar m (xn d) true
  have a₁ := amount_cell m (yn d) none false
  have a₂ := amount_cell m (xn d) none true
  have p₁ := (payload_cell m (yn d) none false).trans (pay_bar_y m d)
  have p₂ := (payload_cell m (xn d) none true).trans (pay_bar_x m d)
  have i₁ := ctx_inv m K (yn d) none
  have i₂ := ctx_inv m K (xn d) none
  have i₃ := ctx_inv m K d none
  have r₁ := ctx_reached m K (yn d) none
  have r₂ := ctx_reached m K (xn d) none
  have x₃ := expect_bar m d
  have b₃ := rest_bar m d
  have hl := (ctx_lev m K).trans (mayWait d (.reg barS) (b := 1) (by show lvl (dec (ksem none)) ≤ 1; rw [dec_ksem]; exact Nat.le_refl 1) hO)
  simp only [hc] at e₁ e₂ a₁ a₂ p₁ p₂ i₁ i₂ i₃ r₁ r₂ x₃ b₃ ⊢
  unfold Ow
  iintro ⟨#HC, Hl1, Hl2, Ht1, Ht2, Hc, Hat, ⟨%W, HO⟩⟩ Hk
  iapply (Rounds.wp_signal 𝒱₀ ER (Rd m) (d : Thread nD τ) none (dst := (yn d : Thread nD τ)) (κ := K (yn d, none)) (d := false)
      e₁ (a₁.trans (by decide)) () (O + tallyAt ((xn d : Thread nD τ), SemLoc.reg barS) () 1) rfl) $$ [HO Ht1 Hl1]
  · isplitr; · iapply i₁; iexact HC
    isplitl [HO]; · iexact HO
    isplitl [Ht1]; · iexact Ht1
    isplitl [Hl1]; · iapply (BIBase.Entails.of_eq p₁.symm); iexact Hl1
    iapply r₁; iexact HC
  iintro HO
  iapply (Rounds.wp_signal 𝒱₀ ER (Rd m) (d : Thread nD τ) none (dst := (xn d : Thread nD τ)) (κ := K (xn d, none)) (d := true)
      e₂ (a₂.trans (by decide)) () O rfl) $$ [HO Ht2 Hl2]
  · isplitr; · iapply i₂; iexact HC
    isplitl [HO]; · iexact HO
    isplitl [Ht2]; · iexact Ht2
    isplitl [Hl2]; · iapply (BIBase.Entails.of_eq p₂.symm); iexact Hl2
    iapply r₂; iexact HC
  iintro HO
  iapply (Rounds.wp_wait_rest_token 𝒱₀ ER (Rd m) (d : Thread nD τ) none (κ := K (d, none))
      (wpE_semWait_eq 𝒱₀ (d : Thread nD τ) none Set.univ) (Set.mem_univ _) () (O := O) (W := W) (R := 0) (m := 0) (T := ∅)
      (by rw [x₃]; decide)) $$ [Hc HO Hat]
  · isplitr; · iapply i₃; iexact HC
    isplitl [Hc]; · iexact Hc
    isplitl [HO]; · iexact HO
    isplitr; · iapply hl; iexact HC
    iexact Hat
  iintro ⟨HO, Hat, -, Hpay⟩
  ihave Hp := (BIBase.Entails.of_eq b₃) $$ Hpay
  simp only [pay]
  icases Hp with ⟨H1, H2⟩
  iapply Hk
  isplitl [H1]; · iexact H1
  isplitl [H2]; · iexact H2
  isplitl [Hat]; · iexact Hat
  iexists _; iexact HO

/-! ## Filling and sending -/

theorem tr_ldS (n : ℕ) : Tr m K d Kt (stIdle m d (sl n)) (ldS d n) (stBusy m d (sl n) (yNo d) (qY d (ck n))) :=
  tr_ldStart m K d Kt (sl n) (k0_off1_inb d (ck n)) (off1_eq d (ck n))

/-- Between two rounds: chunk `n` being loaded, the earlier ones sent. -/
def I1 (n : ℕ) : sProp 𝕄 :=
  iprop(stBusy m d (sl n) (yNo d) (qY d (ck n)) ∗ stIdle m d (sl (n + 1)) ∗ pr n (A1 d) (B1 d) ∗ Ow d (OX d 0 + OY d n))

theorem tr_sendStep (n : ℕ) (h : n < 16) :
    Tr m K d Kt iprop(stBusy m d (sl n) (yNo d) (qY d (ck n)) ∗ pr n (A1 d) (B1 d) ∗ Ow d (OX d 0 + OY d n)) (sendOne d (ck n) (sl n))
      iprop(stIdle m d (sl n) ∗ pr (n + 1) (A1 d) (B1 d) ∗ Ow d (OX d 0 + OY d (n + 1))) := fun k => by
  have hO : Above 0 (OX d 0 + OY d (n + 1) + tallyAt (cell (yn d) (some (1, ck n))) () N) :=
    (((above_OX d 0).mono (Nat.zero_le _)).add ((above_OY d _).mono (Nat.zero_le _))).add (above_tally _ _ _ (by show 0 < 2; decide))
  have e : OX d 0 + OY d n = OX d 0 + OY d (n + 1) + tallyAt (cell (yn d) (some (1, ck n))) () N := by rw [OY_step d n h, add_assoc]
  rw [e]
  iintro ⟨#HC, Hb, Hp, HO⟩ Hk
  ihave Hp := (pr_step n h (A1 d) (B1 d)) $$ Hp
  icases Hp with ⟨HA, HB⟩
  unfold A1
  iapply (tr_sendOne m K d Kt (ck n) (sl n) hO k) $$ [Hb HA HO]
  · isplitr; · iexact HC
    isplitl [Hb]; · iexact Hb
    isplitl [HA] <;> iassumption
  iintro ⟨Hst, Hc, HO⟩
  iapply Hk
  isplitl [Hst]; · iexact Hst
  isplitl [HB Hc]
  · iapply HB; unfold B1; iexact Hc
  iexact HO

theorem tr_round1 (n : ℕ) (h : n < 15) : Tr m K d Kt (I1 m d n) (fun k => ldS d (n + 1) <| sendOne d (ck n) (sl n) k) (I1 m d (n + 1)) := fun k => by
  have e : sl (n + 1 + 1) = sl n := Fin.ext (by show (n + 1 + 1) % 2 = n % 2; omega)
  unfold I1
  rw [e]
  iintro ⟨#HC, Hb, Hi, Hp, HO⟩ Hk
  iapply (tr_ldS m K d Kt (n + 1) _) $$ [Hi]
  · isplitr; · iexact HC
    iexact Hi
  iintro Hb'
  iapply (tr_sendStep m K d Kt n (by omega) _) $$ [Hb Hp HO]
  · isplitr; · iexact HC
    isplitl [Hb]; · iexact Hb
    isplitl [Hp] <;> iassumption
  iintro ⟨Hi, Hp, HO⟩
  iapply Hk
  isplitl [Hb']; · iexact Hb'
  isplitl [Hi]; · iexact Hi
  isplitl [Hp] <;> iassumption

theorem tr_phase1 :
    Tr m K d Kt iprop(stIdle m d 0 ∗ stIdle m d 1 ∗ bigSep Finset.univ (A1 d) ∗ Ow d (OX d 0 + OY d 0))
      (fun k => ldS d 0 <| rep (fun n k => ldS d (n + 1) <| sendOne d (ck n) (sl n) k) 15 <| sendOne d 15 1 k)
      iprop(stIdle m d 0 ∗ stIdle m d 1 ∗ bigSep Finset.univ (B1 d) ∗ Ow d (OX d 0)) := fun k => by
  rw [← pr_zero (A1 d) (B1 d)]
  iintro ⟨#HC, Hi0, Hi1, Hp, HO⟩ Hk
  iapply (tr_ldS m K d Kt 0 _) $$ [Hi0]
  · isplitr; · iexact HC
    iexact Hi0
  iintro Hb
  iapply (Tr.rep (I1 m d) _ 15 (fun i hi => tr_round1 m K d Kt i hi) _) $$ [Hb Hi1 Hp HO]
  · isplitr; · iexact HC
    unfold I1
    isplitl [Hb]; · iexact Hb
    isplitl [Hi1]; · iexact Hi1
    isplitl [Hp] <;> iassumption
  unfold I1
  iintro ⟨Hb, Hi, Hp, HO⟩
  iapply (tr_sendStep m K d Kt 15 (by decide) k) $$ [Hb Hp HO]
  · isplitr; · iexact HC
    isplitl [Hb]; · iexact Hb
    isplitl [Hp] <;> iassumption
  rw [OY_end, add_zero, pr_all]
  iintro ⟨Hi', Hp, HO⟩
  iapply Hk
  isplitl [Hi]; · iexact Hi
  isplitl [Hi']; · iexact Hi'
  isplitl [Hp] <;> iassumption

/-! ## Receiving, forwarding, normalising -/

section Second
variable (gM : Memref sig .tc .vmem S4096 .f32)

theorem tr_ldY (b : Fin 2) (n : ℕ) : Tr m K d Kt (stIdle m d b) (ldY d b n) (stBusy m d b (yOf d) (qY d (ck n))) :=
  tr_ldStart m K d Kt b (k0_off3_inb d (ck n)) (off3_eq d (ck n))
theorem tr_ldX (b : Fin 2) (n : ℕ) : Tr m K d Kt (stIdle m d b) (ldX d b n) (stBusy m d b (yOf d) (qX d (ck n))) :=
  tr_ldStart m K d Kt b (k0_off5_inb d (ck n)) (off5_eq d (ck n))

/-- The three ways an output slot is had free: it was, or its copy of a chunk of either quarter is waited for. -/
theorem tr_free (b : Fin 2) {O : CellTallies nD τ sig Unit} : Tr m K d Kt iprop(ouIdle d b ∗ Ow d O) id iprop(ouIdle d b ∗ emp ∗ Ow d O) := fun k => by
  iintro ⟨#HC, Hi, HO⟩ Hk
  iapply Hk
  isplitl [Hi]; · iexact Hi
  isplitr; · iempintro
  iexact HO
theorem tr_owY (b : Fin 2) (n : ℕ) {O : CellTallies nD τ sig Unit} (hO : Above 0 O) :
    Tr m K d Kt iprop(ouBusy m d b (qY d (ck n)) ∗ Ow d O) (owY d b n) iprop(ouIdle d b ∗ DY m d (ck n) ∗ Ow d O) :=
  tr_outWait m K d Kt b _ _ hO
theorem tr_owX (b : Fin 2) (n : ℕ) {O : CellTallies nD τ sig Unit} (hO : Above 0 O) :
    Tr m K d Kt iprop(ouBusy m d b (qX d (ck n)) ∗ Ow d O) (owX d b n) iprop(ouIdle d b ∗ DX m d (ck n) ∗ Ow d O) :=
  tr_outWait m K d Kt b _ _ hO

/-- Chunk `n` of the own quarter: received, forwarded and normalised. -/
theorem tr_stepY (n : ℕ) (h : n < 16) (b : Fin 2) (w : Pg F → Pg F) (X Y : sProp 𝕄)
    (hw : Tr m K d Kt iprop(X ∗ Ow d (OX d (n + 1))) w iprop(ouIdle d b ∗ Y ∗ Ow d (OX d (n + 1)))) :
    Tr m K d Kt iprop(stBusy m d b (yOf d) (qY d (ck n)) ∗ gam m d gM ∗ pr n (A2 d) (B2 m d) ∗ X ∗ Ow d (OX d n))
      (fun k => recvFwd d (ck n) <| finY gM d b (ck n) w k)
      iprop(stIdle m d b ∗ gam m d gM ∗ pr (n + 1) (A2 d) (B2 m d) ∗ ouBusy m d b (qY d (ck n)) ∗ Y ∗ Ow d (OX d (n + 1))) := fun k => by
  have hO : Above 2 (OX d (n + 1) + tallyAt (cell (xn d) (some (3, ck n))) () N) := by
    rw [← OX_step d n h]; exact (above_OX d n).mono (by omega)
  rw [OX_step d n h]
  iintro ⟨#HC, Hb, Hg, Hp, HX, HO⟩ Hk
  ihave Hp := (pr_step n h (A2 d) (B2 m d)) $$ Hp
  icases Hp with ⟨HA, HB⟩
  unfold A2
  icases HA with ⟨HA, Ht⟩
  iapply (tr_recvFwd m K d Kt (ck n) hO _) $$ [HA HO]
  · isplitr; · iexact HC
    isplitl [HA] <;> iassumption
  iintro ⟨⟨Hr, Hat, Hc⟩, HO⟩
  unfold finY
  iapply (tr_finish m K d Kt gM b (k0_off3_inb d (ck n)) (k0_off4_inb d (ck n)) (k0_off2_inb d (ck n)) (off4_eq d (ck n)) (off2_eq d (ck n)) fullShare.right w X Y
    ((above_OX d (n + 1)).mono (Nat.zero_le _)) hw k) $$ [Hb Hr Hg Ht HX HO]
  · isplitr; · iexact HC
    isplitl [Hb]; · iexact Hb
    isplitl [Hr]; · iexact Hr
    isplitl [Hg]; · iexact Hg
    isplitl [Ht]; · iexact Ht
    isplitl [HX] <;> iassumption
  iintro ⟨Hi, Hr, Hg, Hou, HY, HO⟩
  iapply Hk
  isplitl [Hi]; · iexact Hi
  isplitl [Hg]; · iexact Hg
  isplitl [HB Hr Hat Hc]
  · iapply HB; unfold B2
    isplitl [Hr]; · iexact Hr
    isplitl [Hat] <;> iassumption
  isplitl [Hou]; · iexact Hou
  isplitl [HY] <;> iassumption

/-- Chunk `n` of the other quarter: received and normalised. -/
theorem tr_stepX (n : ℕ) (h : n < 16) (b : Fin 2) (w : Pg F → Pg F) (X Y : sProp 𝕄) {O : CellTallies nD τ sig Unit} (hO : Above (3 + n) O)
    (hw : Tr m K d Kt iprop(X ∗ Ow d O) w iprop(ouIdle d b ∗ Y ∗ Ow d O)) :
    Tr m K d Kt iprop(stBusy m d b (yOf d) (qX d (ck n)) ∗ gam m d gM ∗ pr n (A3 d) (B3 m d) ∗ X ∗ Ow d O)
      (fun k => recvOther d (ck n) <| finX gM d b (ck n) w k)
      iprop(stIdle m d b ∗ gam m d gM ∗ pr (n + 1) (A3 d) (B3 m d) ∗ ouBusy m d b (qX d (ck n)) ∗ Y ∗ Ow d O) := fun k => by
  have hc : (ck n).val = n := Nat.mod_eq_of_lt h
  iintro ⟨#HC, Hb, Hg, Hp, HX, HO⟩ Hk
  ihave Hp := (pr_step n h (A3 d) (B3 m d)) $$ Hp
  icases Hp with ⟨HA, HB⟩
  unfold A3
  icases HA with ⟨HA, Ht⟩
  iapply (tr_recvOther m K d Kt (ck n) (by rw [hc]; exact hO) _) $$ [HA HO]
  · isplitr; · iexact HC
    isplitl [HA] <;> iassumption
  iintro ⟨⟨Hr, Hat⟩, HO⟩
  unfold finX
  iapply (tr_finish m K d Kt gM b (k0_off5_inb d (ck n)) (k0_off6_inb d (ck n)) (k0_off7_inb d (ck n)) (off6_eq d (ck n)) (off7_eq d (ck n)) fullShare w X Y
    (hO.mono (Nat.zero_le _)) hw k) $$ [Hb Hr Hg Ht HX HO]
  · isplitr; · iexact HC
    isplitl [Hb]; · iexact Hb
    isplitl [Hr]; · iexact Hr
    isplitl [Hg]; · iexact Hg
    isplitl [Ht]; · iexact Ht
    isplitl [HX] <;> iassumption
  iintro ⟨Hi, Hr, Hg, Hou, HY, HO⟩
  iapply Hk
  isplitl [Hi]; · iexact Hi
  isplitl [Hg]; · iexact Hg
  isplitl [HB Hr Hat]
  · iapply HB; unfold B3
    isplitl [Hr] <;> iassumption
  isplitl [Hou]; · iexact Hou
  isplitl [HY] <;> iassumption

/-- One round: chunk `n + 1` of the own quarter and chunk `n` of the other. -/
theorem tr_pair (n : ℕ) (h : n + 1 < 16) (wy wx nxt : Pg F → Pg F) (Xy Yy Xx Yx R : sProp 𝕄)
    (hwy : Tr m K d Kt iprop(Xy ∗ Ow d (OX d (n + 2))) wy iprop(ouIdle d 1 ∗ Yy ∗ Ow d (OX d (n + 2))))
    (hwx : Tr m K d Kt iprop(Xx ∗ Ow d (OX d (n + 2))) wx iprop(ouIdle d 0 ∗ Yx ∗ Ow d (OX d (n + 2))))
    (hn : Tr m K d Kt (stIdle m d 1) nxt R) :
    Tr m K d Kt iprop((stBusy m d 1 (yOf d) (qY d (ck (n + 1))) ∗ stIdle m d 0 ∗ gam m d gM ∗ Ow d (OX d (n + 1)) ∗ pr (n + 1) (A2 d) (B2 m d) ∗ pr n (A3 d) (B3 m d))
        ∗ Xy ∗ Xx)
      (pair gM d wy wx nxt n)
      iprop((R ∗ stIdle m d 0 ∗ gam m d gM ∗ Ow d (OX d (n + 2)) ∗ pr (n + 2) (A2 d) (B2 m d) ∗ pr (n + 1) (A3 d) (B3 m d))
        ∗ ouBusy m d 1 (qY d (ck (n + 1))) ∗ ouBusy m d 0 (qX d (ck n)) ∗ Yy ∗ Yx) := fun k => by
  unfold pair
  iintro ⟨#HC, ⟨Hb, Hi, Hg, HO, Hp2, Hp3⟩, HXy, HXx⟩ Hk
  iapply (tr_ldX m K d Kt 0 n _) $$ [Hi]
  · isplitr; · iexact HC
    iexact Hi
  iintro Hb0
  iapply (tr_stepY m K d Kt gM (n + 1) h 1 wy Xy Yy hwy _) $$ [Hb Hg Hp2 HXy HO]
  · isplitr; · iexact HC
    isplitl [Hb]; · iexact Hb
    isplitl [Hg]; · iexact Hg
    isplitl [Hp2]; · iexact Hp2
    isplitl [HXy] <;> iassumption
  iintro ⟨Hi, Hg, Hp2, Hou1, HYy, HO⟩
  iapply (hn _) $$ [Hi]
  · isplitr; · iexact HC
    iexact Hi
  iintro HR
  iapply (tr_stepX m K d Kt gM n (by omega) 0 wx Xx Yx ((above_OX d (n + 2)).mono (by omega)) hwx k) $$ [Hb0 Hg Hp3 HXx HO]
  · isplitr; · iexact HC
    isplitl [Hb0]; · iexact Hb0
    isplitl [Hg]; · iexact Hg
    isplitl [Hp3]; · iexact Hp3
    isplitl [HXx] <;> iassumption
  iintro ⟨Hi, Hg, Hp3, Hou0, HYx, HO⟩
  iapply Hk
  isplitr [Hou1 Hou0 HYy HYx]
  · isplitl [HR]; · iexact HR
    isplitl [Hi]; · iexact Hi
    isplitl [Hg]; · iexact Hg
    isplitl [HO]; · iexact HO
    isplitl [Hp2] <;> iassumption
  isplitl [Hou1]; · iexact Hou1
  isplitl [Hou0]; · iexact Hou0
  isplitl [HYy] <;> iassumption

/-- Between two rounds: chunk `n + 1` of the own quarter and chunk `n` of the other are being copied out, chunk `n + 2` loaded. -/
def I2 (n : ℕ) (R : sProp 𝕄) : sProp 𝕄 :=
  iprop(((R ∗ stIdle m d 0 ∗ gam m d gM ∗ Ow d (OX d (n + 2)) ∗ pr (n + 2) (A2 d) (B2 m d) ∗ pr (n + 1) (A3 d) (B3 m d))
    ∗ ouBusy m d 1 (qY d (ck (n + 1))) ∗ ouBusy m d 0 (qX d (ck n))) ∗ dn (n + 1) (DY m d) ∗ dn n (DX m d))

theorem tr_round2 (n : ℕ) (h : n < 14) (nxt : Pg F → Pg F) (R : sProp 𝕄) (hn : Tr m K d Kt (stIdle m d 1) nxt R) :
    Tr m K d Kt (I2 m d gM n (stBusy m d 1 (yOf d) (qY d (ck (n + 2))))) (pair gM d (owY d 1 (n + 1)) (owX d 0 n) nxt (n + 1)) (I2 m d gM (n + 1) R) := fun k => by
  have hO : Above 0 (OX d (n + 1 + 2)) := (above_OX d (n + 3)).mono (Nat.zero_le _)
  unfold I2
  iintro ⟨#HC, ⟨Hm, Hou⟩, HDY, HDX⟩ Hk
  iapply (tr_pair m K d Kt gM (n + 1) (by omega) (owY d 1 (n + 1)) (owX d 0 n) nxt (ouBusy m d 1 (qY d (ck (n + 1)))) (DY m d (ck (n + 1)))
    (ouBusy m d 0 (qX d (ck n))) (DX m d (ck n)) R (tr_owY m K d Kt 1 (n + 1) hO) (tr_owX m K d Kt 0 n hO) hn k) $$ [Hm Hou]
  · isplitr; · iexact HC
    isplitl [Hm] <;> iassumption
  iintro ⟨Hm, Hou1, Hou0, HYy, HYx⟩
  iapply Hk
  isplitr [HDY HDX HYy HYx]
  · isplitl [Hm]; · iexact Hm
    isplitl [Hou1] <;> iassumption
  isplitl [HDY HYy]
  · iapply (dn_step (n + 1) (by omega) (DY m d)); isplitl [HDY] <;> iassumption
  iapply (dn_step n (by omega) (DX m d)); isplitl [HDX] <;> iassumption

theorem tr_phase2 :
    Tr m K d Kt iprop(stIdle m d 0 ∗ stIdle m d 1 ∗ ouIdle d 0 ∗ ouIdle d 1 ∗ gam m d gM ∗ bigSep Finset.univ (A2 d) ∗ bigSep Finset.univ (A3 d) ∗ Ow d (OX d 0))
      (fun k => ldY d 0 0 <| ldY d 1 1 <| recvFwd d 0 <| finY gM d 0 0 id <| pair gM d id (owY d 0 0) (ldY d 1 2) 0 <|
        rep (fun n k => pair gM d (owY d 1 (n + 1)) (owX d 0 n) (ldY d 1 (n + 3)) (n + 1) k) 13 <|
        pair gM d (owY d 1 14) (owX d 0 13) (ldX d 1 15) 14 <| recvOther d 15 <| finX gM d 1 15 (owY d 1 15) <| owX d 0 14 <| owX d 1 15 k)
      iprop(stIdle m d 0 ∗ stIdle m d 1 ∗ ouIdle d 0 ∗ ouIdle d 1 ∗ gam m d gM ∗ bigSep Finset.univ (B2 m d) ∗ bigSep Finset.univ (B3 m d)
        ∗ bigSep Finset.univ (DY m d) ∗ bigSep Finset.univ (DX m d) ∗ Ow d 0) := fun k => by
  have hO2 : Above 0 (OX d (0 + 2)) := (above_OX d 2).mono (Nat.zero_le _)
  rw [← pr_zero (A2 d) (B2 m d), ← pr_zero (A3 d) (B3 m d)]
  iintro ⟨#HC, Hi0, Hi1, Ho0, Ho1, Hg, Hp2, Hp3, HO⟩ Hk
  iapply (tr_ldY m K d Kt 0 0 _) $$ [Hi0]
  · isplitr; · iexact HC
    iexact Hi0
  iintro Hb0
  iapply (tr_ldY m K d Kt 1 1 _) $$ [Hi1]
  · isplitr; · iexact HC
    iexact Hi1
  iintro Hb1
  iapply (tr_stepY m K d Kt gM 0 (by decide) 0 id (ouIdle d 0) iprop(emp) (tr_free m K d Kt 0) _) $$ [Hb0 Hg Hp2 Ho0 HO]
  · isplitr; · iexact HC
    isplitl [Hb0]; · iexact Hb0
    isplitl [Hg]; · iexact Hg
    isplitl [Hp2]; · iexact Hp2
    isplitl [Ho0] <;> iassumption
  iintro ⟨Hi0, Hg, Hp2, Ho0, -, HO⟩
  iapply (tr_pair m K d Kt gM 0 (by decide) id (owY d 0 0) (ldY d 1 2) (ouIdle d 1) iprop(emp) (ouBusy m d 0 (qY d (ck 0))) (DY m d (ck 0))
    (stBusy m d 1 (yOf d) (qY d (ck (0 + 2)))) (tr_free m K d Kt 1) (tr_owY m K d Kt 0 0 hO2) (tr_ldY m K d Kt 1 2) _) $$ [Hb1 Hi0 Hg HO Hp2 Hp3 Ho1 Ho0]
  · isplitr; · iexact HC
    isplitl [Hb1 Hi0 Hg HO Hp2 Hp3]
    · isplitl [Hb1]; · iexact Hb1
      isplitl [Hi0]; · iexact Hi0
      isplitl [Hg]; · iexact Hg
      isplitl [HO]; · iexact HO
      isplitl [Hp2] <;> iassumption
    isplitl [Ho1] <;> iassumption
  iintro ⟨Hm, Hou1, Hou0, -, HYx⟩
  iapply (Tr.rep (fun n => I2 m d gM n (stBusy m d 1 (yOf d) (qY d (ck (n + 2))))) _ 13
    (fun n hn => tr_round2 m K d Kt gM n (by omega) (ldY d 1 (n + 3)) _ (tr_ldY m K d Kt 1 (n + 3))) _) $$ [Hm Hou1 Hou0 HYx]
  · isplitr; · iexact HC
    unfold I2
    isplitl [Hm Hou1 Hou0]
    · isplitl [Hm]; · iexact Hm
      isplitl [Hou1] <;> iassumption
    isplitl [HYx]
    · iapply (dn_step 0 (by decide) (DY m d))
      isplitr
      · iapply (dn_zero (DY m d)); iempintro
      iexact HYx
    iapply (dn_zero (DX m d)); iempintro
  iintro HI
  iapply (tr_round2 m K d Kt gM 13 (by decide) (ldX d 1 15) _ (tr_ldX m K d Kt 1 15) _) $$ [HI]
  · isplitr; · iexact HC
    iexact HI
  have e16 : OX d (13 + 1 + 2) = 0 := OX_end d
  unfold I2
  rw [e16]
  iintro ⟨⟨⟨Hb1, Hi0, Hg, HO, Hp2, Hp3⟩, Hou1, Hou0⟩, HDY, HDX⟩
  iapply (tr_stepX m K d Kt gM 15 (by decide) 1 (owY d 1 15) _ _ (above_zero _) (tr_owY m K d Kt 1 15 (above_zero _)) _) $$ [Hb1 Hg Hp3 Hou1 HO]
  · isplitr; · iexact HC
    isplitl [Hb1]; · iexact Hb1
    isplitl [Hg]; · iexact Hg
    isplitl [Hp3]; · iexact Hp3
    isplitl [Hou1] <;> iassumption
  iintro ⟨Hi1, Hg, Hp3, Hou1, HYy, HO⟩
  iapply (tr_owX m K d Kt 0 14 (above_zero _) _) $$ [Hou0 HO]
  · isplitr; · iexact HC
    isplitl [Hou0] <;> iassumption
  iintro ⟨Ho0, HX14, HO⟩
  iapply (tr_owX m K d Kt 1 15 (above_zero _) k) $$ [Hou1 HO]
  · isplitr; · iexact HC
    isplitl [Hou1] <;> iassumption
  iintro ⟨Ho1, HX15, HO⟩
  ihave HDX := (dn_step 14 (by decide) (DX m d)) $$ [HDX HX14]
  · isplitl [HDX] <;> iassumption
  ihave HDX := (dn_step 15 (by decide) (DX m d)) $$ [HDX HX15]
  · isplitl [HDX] <;> iassumption
  ihave HDY := (dn_step 15 (by decide) (DY m d)) $$ [HDY HYy]
  · isplitl [HDY] <;> iassumption
  ihave HDX := (dn_all (DX m d)) $$ HDX
  ihave HDY := (dn_all (DY m d)) $$ HDY
  ihave Hp2 := (BIBase.Entails.of_eq (pr_all _ (B2 m d))) $$ Hp2
  ihave Hp3 := (BIBase.Entails.of_eq (pr_all _ (B3 m d))) $$ Hp3
  iapply Hk
  isplitl [Hi0]; · iexact Hi0
  isplitl [Hi1]; · iexact Hi1
  isplitl [Ho0]; · iexact Ho0
  isplitl [Ho1]; · iexact Ho1
  isplitl [Hg]; · iexact Hg
  isplitl [Hp2]; · iexact Hp2
  isplitl [Hp3]; · iexact Hp3
  isplitl [HDY]; · iexact HDY
  isplitl [HDX] <;> iassumption

end Second

/-! ## Waiting for the sends -/

theorem tr_phase3 : Tr m K d Kt iprop(bigSep Finset.univ (A4 d) ∗ Ow d 0) (rep (fun n k => sentWait d (ck n) k) 16) iprop(bigSep Finset.univ (B4 m d) ∗ Ow d 0) := by
  rw [← pr_zero (A4 d) (B4 m d), ← pr_all (A4 d) (B4 m d)]
  refine Tr.rep (fun n => iprop(pr n (A4 d) (B4 m d) ∗ Ow d 0)) _ 16 fun n hn k => ?_
  iintro ⟨#HC, Hp, HO⟩ Hk
  ihave Hp := (pr_step n hn (A4 d) (B4 m d)) $$ Hp
  icases Hp with ⟨HA, HB⟩
  unfold A4
  iapply (tr_sentWait m K d Kt (ck n) k) $$ [HA HO]
  · isplitr; · iexact HC
    isplitl [HA] <;> iassumption
  iintro ⟨HB4, HO⟩
  iapply Hk
  isplitl [HB HB4]
  · iapply HB; unfold B4; iexact HB4
  iexact HO

end Cert.KernelIdeal.Rs

end
-- ==== Proof.Buffers.lean ====
/-
  The buffers cut into the chunks the body works on, and put together again.
-/
module

public import proofs.«01_k».proof.Proof.Phases

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Gen

variable {F : FTy → Type} [FloatOps F]

local notation "𝕄" => MT nD τ sig Unit (Elt F) ℕ UU ℕ
variable (m : (ℓ : Loc nD τ sig) → Buf (Elt F) ℓ) (d : Dev nD)

/-! ## The chunks as elements of the whole buffers -/

theorem rb_eq (q : Fin 32) (s : PosShare TreeShare) (f : S4096x4096.Idx → Elt F .bf16) :
    (rb d q s f : sProp 𝕄) = (((d : Thread nD τ).loc cc0_scratch0) ↦[(rowR (rO q) (rO_inb q)).set]{s} f) :=
  congrArg (fun S => (((d : Thread nD τ).loc cc0_scratch0) ↦[S]{s} f : sProp 𝕄)) (rQ_set q)
theorem ot_eq (q : Fin 32) (f : S4096x4096.Idx → Elt F .f32) :
    (ot d q f : sProp 𝕄) = (((d : Thread nD τ).loc main_v1) ↦[(rowR (rO q) (rO_inb q)).set]{fullShare} f) :=
  congrArg (fun S => (((d : Thread nD τ).loc main_v1) ↦[S]{fullShare} f : sProp 𝕄)) (oQ_set q)
theorem sb_eq (r : Fin 16) (f : S2048x4096.Idx → Elt F .bf16) :
    (sb d r f : sProp 𝕄) = (((d : Thread nD τ).loc cc0_scratch1) ↦[(sbR r).set]{fullShare} f) :=
  congrArg (fun S => (((d : Thread nD τ).loc cc0_scratch1) ↦[S]{fullShare} f : sProp 𝕄)) (sbM_set r)
theorem st_eq (b : Fin 2) (f : S2x128x4096.Idx → Elt F .f32) :
    (st d b f : sProp 𝕄) = (((d : Thread nD τ).loc cc0_scratch2) ↦[(slotR b).set]{fullShare} f) :=
  congrArg (fun S => (((d : Thread nD τ).loc cc0_scratch2) ↦[S]{fullShare} f : sProp 𝕄)) (stM_set b)
theorem ou_eq (b : Fin 2) (f : S2x128x4096.Idx → Elt F .f32) :
    (ou d b f : sProp 𝕄) = (((d : Thread nD τ).loc cc0_scratch3) ↦[(slotR b).set]{fullShare} f) :=
  congrArg (fun S => (((d : Thread nD τ).loc cc0_scratch3) ↦[S]{fullShare} f : sProp 𝕄)) (ouM_set b)
theorem quarters_inl (r : Fin 16) : quarters d (.inl r) = qY d r := rfl
theorem quarters_inr (r : Fin 16) : quarters d (.inr r) = qX d r := rfl

/-! ## The receive buffer and the result, by quarters -/

theorem rows_rb (s : PosShare TreeShare) (f : S4096x4096.Idx → Elt F .bf16) :
    ((((d : Thread nD τ).loc cc0_scratch0) ↦[Finset.univ]{s} f) : sProp 𝕄)
      = iprop((bigSep Finset.univ fun r : Fin 16 => rb d (qY d r) s f) ∗ bigSep Finset.univ fun r : Fin 16 => rb d (qX d r) s f) := by
  rw [show (Finset.univ : Finset (Idx ((d : Thread nD τ).loc cc0_scratch0))) = (Finset.univ : Finset (Fin 32)).biUnion (fun q => (rowR (rO q) (rO_inb q)).set) from row_cover.symm,
    pointsTo_biUnion _ _ fun q _ q' _ h => row_disj q q' h, bigSep_univ_equiv (quarters d), bigSep_univ_sum]
  simp only [rb_eq, quarters_inl, quarters_inr]
  rfl

theorem rows_ot (f : S4096x4096.Idx → Elt F .f32) :
    ((((d : Thread nD τ).loc main_v1) ↦[Finset.univ]{fullShare} f) : sProp 𝕄)
      = iprop((bigSep Finset.univ fun r : Fin 16 => ot d (qY d r) f) ∗ bigSep Finset.univ fun r : Fin 16 => ot d (qX d r) f) := by
  rw [show (Finset.univ : Finset (Idx ((d : Thread nD τ).loc main_v1))) = (Finset.univ : Finset (Fin 32)).biUnion (fun q => (rowR (rO q) (rO_inb q)).set) from row_cover.symm,
    pointsTo_biUnion _ _ fun q _ q' _ h => row_disj q q' h, bigSep_univ_equiv (quarters d), bigSep_univ_sum]
  simp only [ot_eq, quarters_inl, quarters_inr]
  rfl

theorem rows_sb (f : S2048x4096.Idx → Elt F .bf16) :
    ((((d : Thread nD τ).loc cc0_scratch1) ↦[Finset.univ]{fullShare} f) : sProp 𝕄) = bigSep Finset.univ fun r : Fin 16 => sb d r f := by
  rw [show (Finset.univ : Finset (Idx ((d : Thread nD τ).loc cc0_scratch1))) = (Finset.univ : Finset (Fin 16)).biUnion (fun r => (sbR r).set) from sb_cover.symm,
    pointsTo_biUnion _ _ fun q _ q' _ h => sb_disj q q' h]
  simp only [sb_eq]

/-! ## The slots -/

theorem two (Φ : Fin 2 → sProp 𝕄) : bigSep Finset.univ Φ = iprop(Φ 0 ∗ Φ 1) := bigSep_univ_eq_bigSepL [0, 1] (by decide) (by decide) Φ

theorem slots_st (f : S2x128x4096.Idx → Elt F .f32) :
    ((((d : Thread nD τ).loc cc0_scratch2) ↦[Finset.univ]{fullShare} f) : sProp 𝕄) = iprop(st d 0 f ∗ st d 1 f) := by
  rw [show (Finset.univ : Finset (Idx ((d : Thread nD τ).loc cc0_scratch2))) = (Finset.univ : Finset (Fin 2)).biUnion (fun b => (slotR b).set) from slot_cover.symm,
    pointsTo_biUnion _ _ fun q _ q' _ h => slot_disj q q' h, two]
  simp only [st_eq]

theorem slots_ou (f : S2x128x4096.Idx → Elt F .f32) :
    ((((d : Thread nD τ).loc cc0_scratch3) ↦[Finset.univ]{fullShare} f) : sProp 𝕄) = iprop(ou d 0 f ∗ ou d 1 f) := by
  rw [show (Finset.univ : Finset (Idx ((d : Thread nD τ).loc cc0_scratch3))) = (Finset.univ : Finset (Fin 2)).biUnion (fun b => (slotR b).set) from slot_cover.symm,
    pointsTo_biUnion _ _ fun q _ q' _ h => slot_disj q q' h, two]
  simp only [ou_eq]

/-- The two slots put together, whatever they hold. -/
theorem join_st : iprop((∃ f, st d 0 f) ∗ (∃ f, st d 1 f)) ⊢ (∃ f, (((d : Thread nD τ).loc cc0_scratch2) ↦[Finset.univ]{fullShare} f) : sProp 𝕄) := by
  simp only [st_eq]
  iintro ⟨⟨%f, Hf⟩, ⟨%g, Hg⟩⟩
  iexists (fun i => if i ∈ (slotR 0).set then f i else g i : S2x128x4096.Idx → Elt F .f32)
  iapply (BIBase.Entails.of_eq (slots_st d _).symm)
  simp only [st_eq]
  isplitl [Hf]
  · iapply (BIBase.Entails.of_eq (pointsTo_congr (f := f) fun i hi => (if_pos hi).symm)); iexact Hf
  · iapply (BIBase.Entails.of_eq (pointsTo_congr (f := g) fun i hi => (if_neg fun h0 =>
      Finset.disjoint_left.mp (slot_disj 0 1 (by decide)) h0 hi).symm)); iexact Hg

theorem join_ou : iprop((∃ f, ou d 0 f) ∗ (∃ f, ou d 1 f)) ⊢ (∃ f, (((d : Thread nD τ).loc cc0_scratch3) ↦[Finset.univ]{fullShare} f) : sProp 𝕄) := by
  simp only [ou_eq]
  iintro ⟨⟨%f, Hf⟩, ⟨%g, Hg⟩⟩
  iexists (fun i => if i ∈ (slotR 0).set then f i else g i : S2x128x4096.Idx → Elt F .f32)
  iapply (BIBase.Entails.of_eq (slots_ou d _).symm)
  simp only [ou_eq]
  isplitl [Hf]
  · iapply (BIBase.Entails.of_eq (pointsTo_congr (f := f) fun i hi => (if_pos hi).symm)); iexact Hf
  · iapply (BIBase.Entails.of_eq (pointsTo_congr (f := g) fun i hi => (if_neg fun h0 =>
      Finset.disjoint_left.mp (slot_disj 0 1 (by decide)) h0 hi).symm)); iexact Hg

/-- The argument shared between the two slots. -/
theorem halves : ((((d : Thread nD τ).loc main_arg0) ↦[Finset.univ]{fullShare} (m ((d : Thread nD τ).loc main_arg0))) : sProp 𝕄)
    ⊣⊢ iprop(PA m d 0 Finset.univ ∗ PA m d 1 Finset.univ) := by
  unfold PA
  exact pointsTo_share (PosShare.mem_left_op_right fullShare)

/-! ## Forgetting contents -/

theorem mono_all {I : Type} [Fintype I] [DecidableEq I] {A B : I → sProp 𝕄} (h : ∀ i, A i ⊢ B i) : bigSep Finset.univ A ⊢ bigSep Finset.univ B :=
  bigSep_mono fun i _ => h i

theorem forget_rb (q : Fin 32) (f : S4096x4096.Idx → Elt F .bf16) : rb d q fullShare f ⊢ (lend d q : sProp 𝕄) := by
  unfold lend; iintro H; iexists f; iexact H
theorem forget_sb (r : Fin 16) (f : S2048x4096.Idx → Elt F .bf16) : sb d r f ⊢ (iprop(∃ f, sb d r f) : sProp 𝕄) := by
  iintro H; iexists f; iexact H
theorem forget_ot (q : Fin 32) (f : S4096x4096.Idx → Elt F .f32) : ot d q f ⊢ (iprop(∃ f, ot d q f) : sProp 𝕄) := by
  iintro H; iexists f; iexact H

theorem cut_rb : iprop(∃ f, ((d : Thread nD τ).loc cc0_scratch0) ↦[Finset.univ]{fullShare} f)
    ⊢ (iprop((bigSep Finset.univ fun r : Fin 16 => lend d (qY d r)) ∗ bigSep Finset.univ fun r : Fin 16 => lend d (qX d r)) : sProp 𝕄) := by
  iintro ⟨%f, H⟩
  iapply (BIClass.sep_mono (mono_all fun r => forget_rb d (qY d r) f) (mono_all fun r => forget_rb d (qX d r) f))
  iapply (BIBase.Entails.of_eq (rows_rb d fullShare f)); iexact H
theorem cut_sb : iprop(∃ f, ((d : Thread nD τ).loc cc0_scratch1) ↦[Finset.univ]{fullShare} f) ⊢ (bigSep Finset.univ fun r : Fin 16 => iprop(∃ f, sb d r f) : sProp 𝕄) := by
  iintro ⟨%f, H⟩
  iapply (mono_all fun r => forget_sb d r f)
  iapply (BIBase.Entails.of_eq (rows_sb d f)); iexact H
theorem cut_ot : iprop(∃ f, ((d : Thread nD τ).loc main_v1) ↦[Finset.univ]{fullShare} f)
    ⊢ (iprop((bigSep Finset.univ fun r : Fin 16 => iprop(∃ f, ot d (qY d r) f)) ∗ bigSep Finset.univ fun r : Fin 16 => iprop(∃ f, ot d (qX d r) f)) : sProp 𝕄) := by
  iintro ⟨%f, H⟩
  iapply (BIClass.sep_mono (mono_all fun r => forget_ot d (qY d r) f) (mono_all fun r => forget_ot d (qX d r) f))
  iapply (BIBase.Entails.of_eq (rows_ot d f)); iexact H
theorem cut_st : iprop(∃ f, ((d : Thread nD τ).loc cc0_scratch2) ↦[Finset.univ]{fullShare} f) ⊢ (iprop((∃ f, st d 0 f) ∗ (∃ f, st d 1 f)) : sProp 𝕄) := by
  iintro ⟨%f, H⟩
  ihave H := (BIBase.Entails.of_eq (slots_st d f)) $$ H
  icases H with ⟨H0, H1⟩
  isplitl [H0]
  · iexists f; iexact H0
  iexists f; iexact H1
theorem cut_ou : iprop(∃ f, ((d : Thread nD τ).loc cc0_scratch3) ↦[Finset.univ]{fullShare} f) ⊢ (iprop((∃ f, ou d 0 f) ∗ (∃ f, ou d 1 f)) : sProp 𝕄) := by
  iintro ⟨%f, H⟩
  ihave H := (BIBase.Entails.of_eq (slots_ou d f)) $$ H
  icases H with ⟨H0, H1⟩
  isplitl [H0]
  · iexists f; iexact H0
  iexists f; iexact H1

/-- The receive buffer whole again: both shares of the own quarter, and the other quarter. -/
theorem join_rb (f : S4096x4096.Idx → Elt F .bf16) :
    iprop((bigSep Finset.univ fun r : Fin 16 => rb d (qY d r) fullShare.left f) ∗ (bigSep Finset.univ fun r : Fin 16 => rb d (qY d r) fullShare.right f)
        ∗ bigSep Finset.univ fun r : Fin 16 => rb d (qX d r) fullShare f)
      ⊢ (((d : Thread nD τ).loc cc0_scratch0) ↦[Finset.univ]{fullShare} f : sProp 𝕄) := by
  rw [rows_rb]
  iintro ⟨H1, H2, H3⟩
  isplitr [H3]
  · iapply (mono_all fun r => (rb_share d (qY d r) f).2)
    iapply (BIBase.Entails.of_eq (bigSep_sep' _ _ _).symm)
    isplitl [H1] <;> iassumption
  iexact H3

end Cert.KernelIdeal.Rs

end
-- ==== Proof.Whole.lean ====
/-
  The whole body of a device: from what the launch deals it to its result, every semaphore back at zero.
-/
module

public import proofs.«01_k».proof.Proof.Buffers

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Gen

variable {F : FTy → Type} [FloatOps F]

local notation "𝕄" => MT nD τ sig Unit (Elt F) ℕ UU ℕ
variable (m : (ℓ : Loc nD τ sig) → Buf (Elt F) ℓ) (K : Dev nD × Cl → ℕ) (d : Dev nD) (Kt : PUnit.{1} → sProp (MT nD τ sig Unit (Elt F) ℕ UU ℕ))

/-! ## All the cells of a device -/

theorem four (Φ : Fin 4 → sProp 𝕄) : bigSep Finset.univ Φ = iprop(Φ 0 ∗ Φ 1 ∗ Φ 2 ∗ Φ 3) := bigSep_univ_eq_bigSepL [0, 1, 2, 3] (by decide) (by decide) Φ
theorem one (Φ : PUnit.{1} → sProp 𝕄) : bigSep Finset.univ Φ = Φ ⟨⟩ :=
  (bigSep_univ_eq_bigSepL [⟨⟩] (by decide) (by decide) Φ).trans (bigSepL_singleton _ _)

/-- A device's cells: the barrier's, and four for each chunk of a quarter. -/
theorem cells_eq (Φ : Cl → sProp 𝕄) : bigSep Finset.univ Φ = iprop(((bigSep Finset.univ fun r : Fin 16 => Φ (some (0, r))) ∗ (bigSep Finset.univ fun r : Fin 16 => Φ (some (1, r)))
    ∗ (bigSep Finset.univ fun r : Fin 16 => Φ (some (2, r))) ∗ bigSep Finset.univ fun r : Fin 16 => Φ (some (3, r))) ∗ Φ none) := by
  rw [bigSep_univ_equiv (Equiv.optionEquivSumPUnit.{0} (Fin 4 × Fin 16)).symm, bigSep_univ_sum, one, bigSep_univ_prod, four]
  rfl

theorem with_all {I : Type} [Fintype I] [DecidableEq I] {R : sProp 𝕄} [BI.Persistent R] {A B : I → sProp 𝕄}
    (h : ∀ i, iprop(R ∗ A i) ⊢ B i) : iprop(R ∗ bigSep Finset.univ A) ⊢ bigSep Finset.univ B :=
  (sep_mono_left (BI.bigSep_of_persistent Finset.univ R)).trans (by rw [← bigSep_sep']; exact bigSep_mono fun i _ => h i)

theorem close_all : iprop(Ctx m K ∗ bigSep Finset.univ fun k : Cl => atPos ER (cell d k) (0 + 1) ∅ 0)
    ⊢ |={Set.univ}=> (bigSep Finset.univ fun k : Cl => semVal (cell d k) 0 : sProp 𝕄) :=
  (with_all (B := fun k : Cl => iprop(|={Set.univ}=> semVal (cell d k) 0)) fun k =>
    (sep_mono_left (ctx_inv m K d k)).trans (Rounds.cell_close ER (Rd m) (Set.mem_univ (K (d, k))) (fun h => h) (R := 0 + 1) (duties_later m (cell d k)))).trans (bigSep_fupd _ _)

/-! ## Before and after -/

/-- The tokens of what the device pays. -/
def payToks : sProp 𝕄 :=
  iprop(dutyTok ER (cell (yn d) none) 0 false ∗ dutyTok ER (cell (xn d) none) 0 true
    ∗ (bigSep Finset.univ fun r : Fin 16 => dutyTok ER (cell d (some (0, r))) 0 false) ∗ (bigSep Finset.univ fun r : Fin 16 => dutyTok ER (cell (yn d) (some (1, r))) 0 false)
    ∗ (bigSep Finset.univ fun r : Fin 16 => dutyTok ER (cell d (some (2, r))) 0 false) ∗ bigSep Finset.univ fun r : Fin 16 => dutyTok ER (cell (xn d) (some (3, r))) 0 false)
/-- What the other devices' debts let it wait for. -/
def creds : sProp 𝕄 :=
  iprop(cred (tallyAt (cell d none) () 2) ∗ (bigSep Finset.univ fun r : Fin 16 => cred (tallyAt (cell d (some (1, r))) () N))
    ∗ bigSep Finset.univ fun r : Fin 16 => cred (tallyAt (cell d (some (3, r))) () N))
/-- The slots' semaphores. -/
def slots : sProp 𝕄 :=
  iprop((semVal ((d : Thread nD τ), .dma (inS 0)) 0 ∗ semVal ((d : Thread nD τ), .dma (inS 1)) 0)
    ∗ semVal ((d : Thread nD τ), .dma (outS 0)) 0 ∗ semVal ((d : Thread nD τ), .dma (outS 1)) 0)
/-- The scratch buffers, whatever they hold. -/
def scr : sProp 𝕄 :=
  iprop((∃ f, ((d : Thread nD τ).loc cc0_scratch0) ↦[Finset.univ]{fullShare} f) ∗ (∃ f, ((d : Thread nD τ).loc cc0_scratch1) ↦[Finset.univ]{fullShare} f)
    ∗ (∃ f, ((d : Thread nD τ).loc cc0_scratch2) ↦[Finset.univ]{fullShare} f) ∗ ∃ f, ((d : Thread nD τ).loc cc0_scratch3) ↦[Finset.univ]{fullShare} f)
def argPts : sProp 𝕄 := ((d : Thread nD τ).loc main_arg0) ↦[Finset.univ]{fullShare} (m ((d : Thread nD τ).loc main_arg0))
def outPts (f : S4096x4096.Idx → Elt F .f32) : sProp 𝕄 := ((d : Thread nD τ).loc main_v1) ↦[Finset.univ]{fullShare} f

def Pre : sProp 𝕄 :=
  iprop((bigSep Finset.univ fun k : Cl => atPos ER (cell d k) 0 ∅ 0) ∗ payToks d ∗ creds d ∗ slots d ∗ scr d ∗ argPts m d ∗ ∃ f, outPts d f)
def Post : sProp 𝕄 :=
  iprop((bigSep Finset.univ fun k : Cl => semVal (cell d k) 0) ∗ slots d ∗ scr d ∗ argPts m d ∗ outPts d (OUT m d))

/-! ## The families, gathered -/

theorem A1_eq : (bigSep Finset.univ (A1 d) : sProp 𝕄) = iprop((bigSep Finset.univ fun r : Fin 16 => iprop(∃ f, sb d r f)) ∗ (bigSep Finset.univ fun r : Fin 16 => lend (yn d) (qY d r))
    ∗ (bigSep Finset.univ fun r : Fin 16 => dutyTok ER (cell d (some (0, r))) 0 false) ∗ bigSep Finset.univ fun r : Fin 16 => dutyTok ER (cell (yn d) (some (1, r))) 0 false) := by
  unfold A1; simp only [bigSep_sep']
theorem A2_eq : (bigSep Finset.univ (A2 d) : sProp 𝕄) = iprop(((bigSep Finset.univ fun r : Fin 16 => cred (tallyAt (cell d (some (1, r))) () N))
    ∗ (bigSep Finset.univ fun r : Fin 16 => atPos ER (cell d (some (1, r))) 0 ∅ 0) ∗ (bigSep Finset.univ fun r : Fin 16 => lend (xn d) (qY d r))
    ∗ (bigSep Finset.univ fun r : Fin 16 => dutyTok ER (cell d (some (2, r))) 0 false) ∗ bigSep Finset.univ fun r : Fin 16 => dutyTok ER (cell (xn d) (some (3, r))) 0 false)
    ∗ bigSep Finset.univ fun r : Fin 16 => iprop(∃ f, ot d (qY d r) f)) := by
  unfold A2; simp only [bigSep_sep']
theorem A3_eq : (bigSep Finset.univ (A3 d) : sProp 𝕄) = iprop(((bigSep Finset.univ fun r : Fin 16 => cred (tallyAt (cell d (some (3, r))) () N))
    ∗ bigSep Finset.univ fun r : Fin 16 => atPos ER (cell d (some (3, r))) 0 ∅ 0) ∗ bigSep Finset.univ fun r : Fin 16 => iprop(∃ f, ot d (qX d r) f)) := by
  unfold A3; simp only [bigSep_sep']
theorem A4_eq : (bigSep Finset.univ (A4 d) : sProp 𝕄) = iprop((bigSep Finset.univ fun r : Fin 16 => cred (tallyAt (cell d (some (0, r))) () N))
    ∗ (bigSep Finset.univ fun r : Fin 16 => cred (tallyAt (cell d (some (2, r))) () N))
    ∗ (bigSep Finset.univ fun r : Fin 16 => atPos ER (cell d (some (0, r))) 0 ∅ 0) ∗ bigSep Finset.univ fun r : Fin 16 => atPos ER (cell d (some (2, r))) 0 ∅ 0) := by
  unfold A4; simp only [bigSep_sep']
theorem B2_eq : (bigSep Finset.univ (B2 m d) : sProp 𝕄) = iprop((bigSep Finset.univ fun r : Fin 16 => rb d (qY d r) fullShare.right (RB m d))
    ∗ (bigSep Finset.univ fun r : Fin 16 => atPos ER (cell d (some (1, r))) (0 + 1) ∅ 0) ∗ bigSep Finset.univ fun r : Fin 16 => cred (tallyAt (cell d (some (2, r))) () N)) := by
  unfold B2; simp only [bigSep_sep']
theorem B3_eq : (bigSep Finset.univ (B3 m d) : sProp 𝕄) = iprop((bigSep Finset.univ fun r : Fin 16 => rb d (qX d r) fullShare (RB m d))
    ∗ bigSep Finset.univ fun r : Fin 16 => atPos ER (cell d (some (3, r))) (0 + 1) ∅ 0) := by
  unfold B3; simp only [bigSep_sep']
theorem B4_eq : (bigSep Finset.univ (B4 m d) : sProp 𝕄) = iprop((bigSep Finset.univ fun r : Fin 16 => sb d r (SB m d))
    ∗ (bigSep Finset.univ fun r : Fin 16 => rb d (qY d r) fullShare.left (RB m d))
    ∗ (bigSep Finset.univ fun r : Fin 16 => atPos ER (cell d (some (0, r))) (0 + 1) ∅ 0) ∗ bigSep Finset.univ fun r : Fin 16 => atPos ER (cell d (some (2, r))) (0 + 1) ∅ 0) := by
  unfold B4; simp only [bigSep_sep']

/-! ## The body -/

theorem body (gM : Memref sig .tc .vmem S4096 .f32) :
    iprop(Ctx m K ∗ Pre m d ∗ gam m d gM ∗ Ow d (O₀ d)) ⊢ iprop(((Post m d ∗ gam m d gM ∗ Ow d 0) -∗ Kt ⟨⟩) -∗ Run d Kt (text gM d)) := by
  unfold Pre payToks creds slots scr argPts outPts
  rw [cells_eq]
  iintro ⟨#HC, ⟨⟨⟨Ha0, Ha1, Ha2, Ha3⟩, HaB⟩, ⟨HtB1, HtB2, Ht0, Ht1, Ht2, Ht3⟩, ⟨HcB, Hc1, Hc3⟩, ⟨⟨Hi0, Hi1⟩, Hv0, Hv1⟩, ⟨Hs0, Hs1, Hs2, Hs3⟩, Harg, Hout⟩, Hg, HO⟩ Hk
  ihave H := (cut_rb d) $$ Hs0
  icases H with ⟨HlY, HlX⟩
  ihave Hsb := (cut_sb d) $$ Hs1
  ihave H := (cut_st d) $$ Hs2
  icases H with ⟨Hst0, Hst1⟩
  ihave H := (cut_ou d) $$ Hs3
  icases H with ⟨Hou0, Hou1⟩
  ihave H := (cut_ot d) $$ Hout
  icases H with ⟨HoY, HoX⟩
  ihave H := (halves m d).1 $$ Harg
  icases H with ⟨HP0, HP1⟩
  unfold text O₀
  have hO : Above 1 (OX d 0 + OY d 0) := ((above_OX d 0).mono (by omega)).add (above_OY d 0)
  iapply (tr_phase0 m K d Kt hO _) $$ [HlY HlX HtB1 HtB2 HcB HaB HO]
  · isplitr; · iexact HC
    isplitl [HlY]; · iexact HlY
    isplitl [HlX]; · iexact HlX
    isplitl [HtB1]; · iexact HtB1
    isplitl [HtB2]; · iexact HtB2
    isplitl [HcB]; · iexact HcB
    isplitl [HaB] <;> iassumption
  iintro ⟨HlY, HlX, HaB, HO⟩
  iapply (tr_phase1 m K d Kt _) $$ [Hi0 Hi1 HP0 HP1 Hst0 Hst1 Hsb HlY Ht0 Ht1 HO]
  · isplitr; · iexact HC
    unfold stIdle
    isplitl [Hi0 HP0 Hst0]
    · isplitl [Hi0]; · iexact Hi0
      isplitl [HP0] <;> iassumption
    isplitl [Hi1 HP1 Hst1]
    · isplitl [Hi1]; · iexact Hi1
      isplitl [HP1] <;> iassumption
    isplitr [HO]
    · iapply (BIBase.Entails.of_eq (A1_eq d).symm)
      isplitl [Hsb]; · iexact Hsb
      isplitl [HlY]; · iexact HlY
      isplitl [Ht0] <;> iassumption
    iexact HO
  iintro ⟨Hi0, Hi1, Hc0, HO⟩
  iapply (tr_phase2 m K d Kt gM _) $$ [Hi0 Hi1 Hv0 Hv1 Hou0 Hou1 Hg Hc1 Ha1 HlX Ht2 Ht3 HoY Hc3 Ha3 HoX HO]
  · isplitr; · iexact HC
    isplitl [Hi0]; · iexact Hi0
    isplitl [Hi1]; · iexact Hi1
    unfold ouIdle
    isplitl [Hv0 Hou0]
    · isplitl [Hv0] <;> iassumption
    isplitl [Hv1 Hou1]
    · isplitl [Hv1] <;> iassumption
    isplitl [Hg]; · iexact Hg
    isplitl [Hc1 Ha1 HlX Ht2 Ht3 HoY]
    · iapply (BIBase.Entails.of_eq (A2_eq d).symm)
      isplitr [HoY]
      · isplitl [Hc1]; · iexact Hc1
        isplitl [Ha1]; · iexact Ha1
        isplitl [HlX]; · iexact HlX
        isplitl [Ht2] <;> iassumption
      iexact HoY
    isplitl [Hc3 Ha3 HoX]
    · iapply (BIBase.Entails.of_eq (A3_eq d).symm)
      isplitr [HoX]
      · isplitl [Hc3] <;> iassumption
      iexact HoX
    iexact HO
  iintro ⟨Hi0, Hi1, Hv0, Hv1, Hg, HB2, HB3, HDY, HDX, HO⟩
  ihave H := (BIBase.Entails.of_eq (B2_eq m d)) $$ HB2
  icases H with ⟨HrR, Ha1, Hc2⟩
  ihave H := (BIBase.Entails.of_eq (B3_eq m d)) $$ HB3
  icases H with ⟨HrX, Ha3⟩
  unfold B1
  iapply (tr_phase3 m K d Kt _) $$ [Hc0 Hc2 Ha0 Ha2 HO]
  · isplitr; · iexact HC
    isplitr [HO]
    · iapply (BIBase.Entails.of_eq (A4_eq d).symm)
      isplitl [Hc0]; · iexact Hc0
      isplitl [Hc2]; · iexact Hc2
      isplitl [Ha0] <;> iassumption
    iexact HO
  iintro ⟨HB4, HO⟩
  ihave H := (BIBase.Entails.of_eq (B4_eq m d)) $$ HB4
  icases H with ⟨Hsb, HrL, Ha0, Ha2⟩
  imod (close_all m K d) $$ [HaB Ha0 Ha1 Ha2 Ha3] with Hz
  · isplitr; · iexact HC
    iapply (BIBase.Entails.of_eq (cells_eq _).symm)
    isplitr [HaB]
    · isplitl [Ha0]; · iexact Ha0
      isplitl [Ha1]; · iexact Ha1
      isplitl [Ha2] <;> iassumption
    iexact HaB
  rw [wp_ret]; imodintro
  iapply Hk
  isplitr [Hg HO]
  · unfold stIdle ouIdle
    icases Hi0 with ⟨Hi0, HP0, Hst0⟩
    icases Hi1 with ⟨Hi1, HP1, Hst1⟩
    icases Hv0 with ⟨Hv0, Hou0⟩
    icases Hv1 with ⟨Hv1, Hou1⟩
    unfold Post slots scr argPts outPts
    isplitl [Hz]; · iexact Hz
    isplitl [Hi0 Hi1 Hv0 Hv1]
    · isplitl [Hi0 Hi1]
      · isplitl [Hi0] <;> iassumption
      isplitl [Hv0] <;> iassumption
    isplitl [HrL HrR HrX Hsb Hst0 Hst1 Hou0 Hou1]
    · isplitl [HrL HrR HrX]
      · iexists (RB m d); iapply (join_rb d (RB m d))
        isplitl [HrL]; · iexact HrL
        isplitl [HrR] <;> iassumption
      isplitl [Hsb]
      · iexists (SB m d); iapply (BIBase.Entails.of_eq (rows_sb d (SB m d)).symm); iexact Hsb
      isplitl [Hst0 Hst1]
      · iapply (join_st d); isplitl [Hst0] <;> iassumption
      iapply (join_ou d); isplitl [Hou0] <;> iassumption
    isplitl [HP0 HP1]
    · iapply (halves m d).2; isplitl [HP0] <;> iassumption
    iapply (BIBase.Entails.of_eq (rows_ot d (OUT m d)).symm)
    unfold DY DX
    isplitl [HDY] <;> iassumption
  isplitl [Hg] <;> iassumption

end Cert.KernelIdeal.Rs

end
-- ==== Proof.Deal.lean ====
/-
  The launch: the cells, their tokens and the waits they allow, dealt to the devices.
-/
module

public import proofs.«01_k».proof.Proof.Whole

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Gen

variable {F : FTy → Type} [FloatOps F]

local notation "𝕄" => MT nD τ sig Unit (Elt F) ℕ UU ℕ

variable (m : (ℓ : Loc nD τ sig) → Buf (Elt F) ℓ) (d : Dev nD)

/-! ## The semaphores a device starts with -/

/-- The semaphores the kernel names for itself: four for each chunk, two for each kind of slot. -/
abbrev osem : (Fin 4 × Fin 16) ⊕ (Fin 2 × Fin 2) → SemLoc sig
  | .inl x => ksem (some x)
  | .inr (a, b) => if a = 0 then .dma (inS b) else .dma (outS b)
theorem osem_facts : Pipeline.OwnSemFacts cfg0.spec osem where
  isScoped := by decide +kernel
  inj := by decide +kernel
  disj := by decide +kernel

theorem osems_eq : (Pipeline.ownSems0 (Ix := Unit) (Name := ℕ) (U := UU) (Lvl := ℕ) (Val := Elt F) (τ := τ) osem d : sProp 𝕄)
    = iprop((bigSep Finset.univ fun x : Fin 4 × Fin 16 => semVal (cell d (some x)) 0) ∗ slots d) := by
  unfold Pipeline.ownSems0 slots
  rw [bigSep_univ_sum, bigSep_univ_prod (fun x : Fin 2 × Fin 2 => semVal ((d : Thread nD τ), osem (.inr x)) 0), two, two, two]
  rfl
theorem bar_eq : (unscopedSems0 d : sProp 𝕄) = semVal (cell d none) 0 := by
  unfold unscopedSems0; rw [bigSep_eq_bigSepL_of_eq [SemLoc.reg barS] (by decide) (by decide)]; rfl
theorem cl_eq (Φ : Cl → sProp 𝕄) : bigSep Finset.univ Φ = iprop((bigSep Finset.univ fun x => Φ (some x)) ∗ Φ none) := by
  rw [bigSep_univ_equiv (Equiv.optionEquivSumPUnit.{0} (Fin 4 × Fin 16)).symm, bigSep_univ_sum, one]
  rfl

theorem sems_in : iprop(Pipeline.ownSems0 (Ix := Unit) (Name := ℕ) (U := UU) (Lvl := ℕ) (Val := Elt F) (τ := τ) osem d ∗ unscopedSems0 d)
    ⊢ (iprop((bigSep Finset.univ fun k : Cl => semVal (cell d k) 0) ∗ slots d) : sProp 𝕄) := by
  rw [osems_eq, bar_eq, cl_eq]
  iintro ⟨⟨H, Hs⟩, HB⟩
  isplitr [Hs]
  · isplitl [H] <;> iassumption
  iexact Hs
theorem sems_out : (iprop((bigSep Finset.univ fun k : Cl => semVal (cell d k) 0) ∗ slots d) : sProp 𝕄)
    ⊢ iprop(Pipeline.ownSems0 (Ix := Unit) (Name := ℕ) (U := UU) (Lvl := ℕ) (Val := Elt F) (τ := τ) osem d ∗ unscopedSems0 d) := by
  rw [osems_eq, bar_eq, cl_eq]
  iintro ⟨⟨H, HB⟩, Hs⟩
  isplitr [HB]
  · isplitl [H] <;> iassumption
  iexact HB

/-! ## The ghost state made at launch -/

theorem cell_inj : Function.Injective fun ck : Dev nD × Cl => cell ck.1 ck.2 := by
  rintro ⟨c, k⟩ ⟨c', k'⟩ h
  have h1 : c = c' := congrArg (fun g : GSem nD τ sig => g.1.1) h
  have h2 : ksem k = ksem k' := congrArg Prod.snd h
  rw [h1, ksem_inj h2]
def allCells : Finset (GSem nD τ sig) := Finset.univ.map ⟨fun ck : Dev nD × Cl => cell ck.1 ck.2, cell_inj⟩

/-- The tokens: the barrier's cell has two, each of the others one. -/
abbrev tok1 (d : Dev nD) : Bool ⊕ (Fin 4 × Fin 16) → GSem nD τ sig × ℕ × Bool
  | .inl b => (cell d none, 0, b)
  | .inr x => (cell d (some x), 0, false)
theorem tok_inj : Function.Injective fun x : Dev nD × (Bool ⊕ (Fin 4 × Fin 16)) => tok1 x.1 x.2 := by
  rintro ⟨c, a⟩ ⟨c', a'⟩ h
  rcases a with a | a <;> rcases a' with a' | a'
  · have h1 := cell_inj (a₁ := (c, none)) (a₂ := (c', none)) (congrArg Prod.fst h)
    have h2 : a = a' := congrArg (fun x : GSem nD τ sig × ℕ × Bool => x.2.2) h
    rw [show c = c' from congrArg Prod.fst h1, h2]
  · have h1 := cell_inj (a₁ := (c, none)) (a₂ := (c', some a')) (congrArg Prod.fst h)
    exact absurd (congrArg Prod.snd h1) (by simp)
  · have h1 := cell_inj (a₁ := (c, some a)) (a₂ := (c', none)) (congrArg Prod.fst h)
    exact absurd (congrArg Prod.snd h1) (by simp)
  · have h1 := cell_inj (a₁ := (c, some a)) (a₂ := (c', some a')) (congrArg Prod.fst h)
    rw [show c = c' from congrArg Prod.fst h1, show a = a' from Option.some.inj (congrArg Prod.snd h1)]
def allToks : Finset (GSem nD τ sig × ℕ × Bool) := Finset.univ.map ⟨fun x : Dev nD × (Bool ⊕ (Fin 4 × Fin 16)) => tok1 x.1 x.2, tok_inj⟩

def u₀ : UU := (initOf (Pipeline.cells cfgs cellOf_inj) (Pipeline.launchToks cfgs cellOf_inj), (initOf allCells allToks, 1))

/-- A device's own cells' tokens. -/
def toks : sProp 𝕄 :=
  iprop((dutyTok ER (cell d none) 0 false ∗ dutyTok ER (cell d none) 0 true)
    ∗ (bigSep Finset.univ fun r : Fin 16 => dutyTok ER (cell d (some (0, r))) 0 false) ∗ (bigSep Finset.univ fun r : Fin 16 => dutyTok ER (cell d (some (1, r))) 0 false)
    ∗ (bigSep Finset.univ fun r : Fin 16 => dutyTok ER (cell d (some (2, r))) 0 false) ∗ bigSep Finset.univ fun r : Fin 16 => dutyTok ER (cell d (some (3, r))) 0 false)

theorem toks_eq : bigSep allToks (fun x => (dutyTok ER x.1 x.2.1 x.2.2 : sProp 𝕄)) = bigSep Finset.univ fun d : Dev nD => toks d := by
  unfold allToks; rw [bigSep_map, bigSep_univ_prod]
  refine bigSep_congr fun d _ => ?_
  rw [bigSep_univ_sum]
  show iprop((bigSep Finset.univ fun b : Bool => dutyTok ER (cell d none) 0 b) ∗ bigSep Finset.univ fun x : Fin 4 × Fin 16 => dutyTok ER (cell d (some x)) 0 false) = toks d
  rw [bigSep_univ_prod (fun x : Fin 4 × Fin 16 => (dutyTok ER (cell d (some x)) 0 false : sProp 𝕄)), four,
    bigSep_univ_eq_bigSepL (I := Bool) [false, true] (by decide) (by decide)]
  rfl

/-- What a device gets of it. -/
def G : sProp 𝕄 :=
  iprop((bigSep Finset.univ fun k : Cl => roundState ER (Rd m) (cell d k) 0)
    ∗ (bigSep Finset.univ fun k : Cl => atPos ER (cell d k) 0 ∅ 0) ∗ (bigSep Finset.univ fun k : Cl => reached ER (cell d k) 0) ∗ toks d)

theorem fund : BI.own (ER (initOf allCells allToks)) ⊢ (|==> bigSep Finset.univ (G m) : sProp 𝕄) := by
  have hX (Φ : GSem nD τ sig → sProp 𝕄) : bigSep allCells Φ = bigSep Finset.univ fun d : Dev nD => bigSep Finset.univ fun k : Cl => Φ (cell d k) := by
    unfold allCells; rw [bigSep_map, bigSep_univ_prod]; rfl
  iintro HX
  imod (Rounds.fund ER (Rd m) allCells allToks) $$ HX with ⟨Hst, Hr, Hat, Htok⟩
  imodintro
  ihave Hst := (BIBase.Entails.of_eq (hX fun g => roundState ER (Rd m) g 0)) $$ Hst
  ihave Hat := (BIBase.Entails.of_eq (hX fun g => atPos ER g 0 ∅ 0)) $$ Hat
  ihave Hr := (BIBase.Entails.of_eq (hX fun g => reached ER g 0)) $$ Hr
  ihave Htok := (BIBase.Entails.of_eq (toks_eq (F := F))) $$ Htok
  unfold G; simp only [bigSep_sep']
  isplitl [Hst]; · iexact Hst
  isplitl [Hat]; · iexact Hat
  isplitl [Hr] <;> iassumption

theorem launch_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-! ## Dealing it -/

/-- What a device starts its kernel with, of the ghost state and the semaphores. -/
def G' : sProp 𝕄 := iprop(∃ K, records m K ∗ (bigSep Finset.univ fun k : Cl => atPos ER (cell d k) 0 ∅ 0) ∗ payToks d ∗ slots d)

theorem core_alloc : iprop(Pipeline.ownSems0 (Ix := Unit) (Name := ℕ) (U := UU) (Lvl := ℕ) (Val := Elt F) (τ := τ) osem d ∗ unscopedSems0 d ∗ G m d)
    ⊢ |={Set.univ}=> iprop((bigSep Finset.univ fun k : Cl => iprop(∃ κ : ℕ, cellInv ER (Rd m) κ (cell d k)))
      ∗ (bigSep Finset.univ fun k : Cl => reached ER (cell d k) 0) ∗ (bigSep Finset.univ fun k : Cl => atPos ER (cell d k) 0 ∅ 0) ∗ toks d ∗ slots d) := by
  unfold G
  iintro ⟨Hos, Hus, Hst, Hat, Hr, Htok⟩
  ihave Hv := (sems_in (F := F) d) $$ [Hos Hus]
  · isplitl [Hos] <;> iassumption
  icases Hv with ⟨Hv, Hs⟩
  imod (show iprop((bigSep Finset.univ fun k : Cl => semVal (cell d k) 0) ∗ bigSep Finset.univ fun k : Cl => roundState ER (Rd m) (cell d k) 0)
      ⊢ (|={Set.univ}=> bigSep Finset.univ fun k => iprop(∃ κ : ℕ, cellInv ER (Rd m) κ (cell d k)) : sProp 𝕄) from by
        rw [← bigSep_sep']
        exact (bigSep_mono fun k _ => (Rounds.body_intro ER (Rd m) (cell d k)).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- A token goes to the device that pays: the partner across `y`, or across `x`. -/
theorem toks_across : (bigSep Finset.univ fun d : Dev nD => (toks d : sProp 𝕄)) ⊢ bigSep Finset.univ fun d : Dev nD => payToks d := by
  unfold toks payToks
  simp only [bigSep_sep']
  rw [bigSep_univ_equiv yE (fun d : Dev nD => (dutyTok ER (cell d none) 0 false : sProp 𝕄)),
    bigSep_univ_equiv xE (fun d : Dev nD => (dutyTok ER (cell d none) 0 true : sProp 𝕄)),
    bigSep_univ_equiv yE (fun d : Dev nD => (bigSep Finset.univ fun r : Fin 16 => dutyTok ER (cell d (some (1, r))) 0 false : sProp 𝕄)),
    bigSep_univ_equiv xE (fun d : Dev nD => (bigSep Finset.univ fun r : Fin 16 => dutyTok ER (cell d (some (3, r))) 0 false : sProp 𝕄))]
  iintro ⟨⟨HB1, HB2⟩, H0, H1, H2, H3⟩
  isplitl [HB1]; · iexact HB1
  isplitl [HB2]; · iexact HB2
  isplitl [H0]; · iexact H0
  isplitl [H1]; · iexact H1
  isplitl [H2]; · iexact H2
  iexact H3

theorem regroup : (bigSep Finset.univ fun d : Dev nD => iprop((bigSep Finset.univ fun k : Cl => iprop(∃ κ : ℕ, cellInv ER (Rd m) κ (cell d k)))
      ∗ (bigSep Finset.univ fun k : Cl => reached ER (cell d k) 0) ∗ (bigSep Finset.univ fun k : Cl => atPos ER (cell d k) 0 ∅ 0) ∗ toks d ∗ slots d) : sProp 𝕄)
    ⊢ bigSep Finset.univ (G' m) := by
  rw [bigSep_sep', bigSep_sep', bigSep_sep', bigSep_sep', ← bigSep_univ_prod (fun ck : Dev nD × Cl => iprop(∃ κ : ℕ, cellInv ER (Rd m) κ (cell ck.1 ck.2))),
    ← bigSep_univ_prod (fun ck : Dev nD × Cl => (reached ER (cell ck.1 ck.2) 0 : sProp 𝕄))]
  iintro ⟨HI, #HR, Hat, Htok, Hs⟩
  ihave HK := (BI.bigSep_exists_pi Finset.univ (fun (ck : Dev nD × Cl) (κ : ℕ) => (cellInv ER (Rd m) κ (cell ck.1 ck.2) : sProp 𝕄))) $$ HI
  icases HK with ⟨%K, #HI⟩
  ihave Htk := (toks_across (F := F)) $$ Htok
  iapply (with_all (R := records m K) (A := fun d : Dev nD => iprop((bigSep Finset.univ fun k : Cl => atPos ER (cell d k) 0 ∅ 0) ∗ payToks d ∗ slots d)) (B := G' m)
    fun d => by unfold G'; iintro ⟨HR, H⟩; iexists K; isplitl [HR] <;> iassumption)
  isplitr
  · unfold records; isplitl; · iexact HI
    iexact HR
  · simp only [bigSep_sep']
    isplitl [Hat]; · iexact Hat
    isplitl [Htk] <;> iassumption

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((bigSep_mono fun d _ => core_alloc m d).trans (bigSep_fupd _ _)).trans (BI.fupd_mono (regroup m))

/-! ## The waits the others' debts allow -/

theorem OY_all (c : Dev nD) : OY c 0 = ∑ i : Fin 16, tallyAt (cell (yn c) (some (1, i))) () N := by
  unfold OY; rw [Finset.filter_true_of_mem fun _ _ => Nat.zero_le _]
theorem OX_all (c : Dev nD) : OX c 0 = ∑ i : Fin 16, tallyAt (cell (xn c) (some (3, i))) () N := by
  unfold OX; rw [Finset.filter_true_of_mem fun _ _ => Nat.zero_le _]

theorem creds_y (k : Cl) (n : ℕ) : (Pipeline.launchCred (fun c => tallyAt (cell (yn c) k) () n) d : sProp 𝕄) ⊢ cred (tallyAt (cell d k) () n) :=
  Pipeline.launchCred_tallyAt (ksem k) yn yn yn_yn yn_yn () n d
theorem creds_x (k : Cl) (n : ℕ) : (Pipeline.launchCred (fun c => tallyAt (cell (xn c) k) () n) d : sProp 𝕄) ⊢ cred (tallyAt (cell d k) () n) :=
  Pipeline.launchCred_tallyAt (ksem k) xn xn xn_xn xn_xn () n d

theorem creds_intro : (Pipeline.launchCred O₀ d : sProp 𝕄) ⊢ creds d := by
  have e : O₀ = fun c => (((∑ i : Fin 16, tallyAt (cell (xn c) (some (3, i))) () N) + ∑ i : Fin 16, tallyAt (cell (yn c) (some (1, i))) () N)
      + tallyAt (cell (xn c) none) () 1) + tallyAt (cell (yn c) none) () 1 := by
    funext c; unfold O₀; rw [OX_all, OY_all]
  rw [e, Pipeline.launchCred_add, Pipeline.launchCred_add, Pipeline.launchCred_add, Pipeline.launchCred_sum, Pipeline.launchCred_sum]
  unfold creds
  iintro ⟨⟨⟨H3, H1⟩, HX⟩, HY⟩
  isplitl [HX HY]
  · iapply (show iprop(cred (tallyAt (cell d none) () 1) ∗ cred (tallyAt (cell d none) () 1)) ⊢ (cred (tallyAt (cell d none) () 2) : sProp 𝕄) from by
      rw [show (tallyAt (cell d none) () 2 : CellTallies nD τ sig Unit) = tallyAt (cell d none) () 1 + tallyAt (cell d none) () 1 from (tallyAt_add (cell d none) () 1 1).symm]
      exact (cred_add _ _).2)
    isplitl [HX]; · iapply (creds_x d none 1); iexact HX
    iapply (creds_y d none 1); iexact HY
  isplitl [H1]
  · iapply (mono_all fun r : Fin 16 => creds_y d (some (1, r)) N); iexact H1
  · iapply (mono_all fun r : Fin 16 => creds_x d (some (3, r)) N); iexact H3

end Cert.KernelIdeal.Rs

end
-- ==== Proof.Drive.lean ====
/-
  The run: from any memory every device ends at its result, its arguments unchanged and every semaphore at zero.
-/
module

public import proofs.«01_k».proof.Proof.Deal
public import Idealize.ShloMosaic.Lib.Pipeline.CollectiveSegs
public import Idealize.ShloMosaic.Lib.Pipeline.Value

@[expose] public section

set_option maxRecDepth 16384

noncomputable section

namespace Cert.KernelIdeal.Rs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Gen Idealize.ShloMosaic.Pipeline

variable {F : FTy → Type} [FloatOps F]

local notation "𝕄" => MT nD τ sig Unit (Elt F) ℕ UU ℕ

variable (m : (ℓ : Loc nD τ sig) → Buf (Elt F) ℓ) (ρ : Dev nD → PrngReg) (d : Dev nD)

/-! ## The one window: the scale, whole -/

/-- What the window is fetched with. -/
def fetched : (cc0_stg0_0 : Ref sig .tc).ty.Contents (Elt F) :=
  (win0_0.blk t0_0).view.read (Elt F) (m ((d : Thread nD τ).loc main_arg1))

theorem fetched_eq : (fetched m d : S4096.Idx → Elt F .f32) = GM m d := by
  unfold fetched GM
  funext i
  exact congrArg (m ((d : Thread nD τ).loc main_arg1)) (funext fun a => Fin.ext (win0_0.rect_emb_val_of_index_zero t0_0 a rfl i))

/-- Before the body: what the launch dealt. After it: the result. -/
def start : sProp 𝕄 := iprop(G' m d ∗ creds d ∗ levAts L lv ∗ argPts m d ∗ ∃ f, outPts d f)
def Φ₀ : sProp 𝕄 := iprop(start m d ∗ scr d)

def dats (_ : Fin 1) (d : Dev nD) : Dat τ (Elt F) Unit ℕ UU ℕ cfg0 d where
  A w := m ((cfg0.win w).arr.view.loc (d : Thread nD τ))
  after w _ := match w with
    | ⟨0, _⟩ => fetched m d
  Φ t := match t with
    | ⟨0, _⟩ => Φ₀ m d
    | ⟨_ + 1, _⟩ => Post m d
  q _ := fullShare
  owed t := match t with
    | ⟨0, _⟩ => O₀ d
    | ⟨_ + 1, _⟩ => 0

theorem phi_start : (dats m 0 d).Φ t0_0.castSucc = Φ₀ m d := rfl
theorem phi_end : (dats m 0 d).Φ t0_0.succ = Post m d := rfl
theorem after_eq : (dats m 0 d).after (0 : Fin 1) t0_0 = fetched m d := rfl

/-- The staging buffer at contents `X`. -/
abbrev stg (X : (cc0_stg0_0 : Ref sig .tc).ty.Contents (Elt F)) : sProp 𝕄 :=
  iprop(∃ f : Buf (Elt F) ((d : Thread nD τ).loc cc0_stg0_0), ⌜f = X⌝ ∗ (((d : Thread nD τ).loc cc0_stg0_0) ↦{fullShare} f))
def bodyPre : sProp 𝕄 := iprop(Φ₀ m d ∗ (dats m 0 d).owesAt () t0_0.castSucc ∗ (∃ x, stg d ((dats m 0 d).before (0 : Fin 1) t0_0 x)))
def bodyPost : sProp 𝕄 := iprop(Post m d ∗ (dats m 0 d).owesAt () t0_0.succ ∗ stg d (fetched m d))

theorem gam_in (x) : (stg d ((dats m 0 d).before (0 : Fin 1) t0_0 x) : sProp 𝕄) ⊢ gam m d (Memref.whole cc0_stg0_0) := by
  have e : (dats m 0 d).before (0 : Fin 1) t0_0 x = fetched m d := by unfold Dat.before; rw [if_pos (fetch0_0 t0_0)]; rfl
  rw [e]
  unfold gam
  iintro ⟨%f, %h, H⟩
  iexists f
  isplitr
  · ipureintro
    subst h
    exact (Memref.readAt_unit_zero (Elt F) cc0_stg0_0 (off := ![0]) (by funext a; fin_cases a; rfl) _ _).trans (fetched_eq m d)
  iexact H
theorem gam_out : (gam m d (Memref.whole cc0_stg0_0) : sProp 𝕄) ⊢ stg d (fetched m d) := by
  unfold gam
  iintro ⟨%f, %h, H⟩
  iexists f
  isplitr
  · ipureintro
    exact ((Memref.readAt_unit_zero (Elt F) cc0_stg0_0 (off := ![0]) (by funext a; fin_cases a; rfl) _ f).symm.trans h).trans (fetched_eq m d).symm
  iexact H

theorem body_all : bodyPre m d ⊢ wp frame (wpE (defs₀ (F := F)) 𝒱₀ (d : Thread nD τ) none) Set.univ (bodyAt0 t0_0 : Pg F) (fun _ => bodyPost m d) := by
  rw [body_eq, wp_deviceId]
  unfold bodyPre Φ₀ start G' Dat.owesAt Pipeline.owesWithin
  iintro ⟨⟨⟨⟨%K, HR, Hat, Htk, Hsl⟩, Hcr, Hlev, Harg, Hout⟩, Hscr⟩, ⟨%W, -, HO⟩, ⟨%x, Hg⟩⟩
  ihave Hg := (gam_in m d x) $$ Hg
  iapply (body m K d (fun _ => bodyPost m d) (Memref.whole cc0_stg0_0)) $$ [HR Hat Htk Hsl Hcr Hlev Harg Hout Hscr HO Hg]
  · unfold Ctx Pre
    isplitl [HR Hlev]
    · isplitl [HR] <;> iassumption
    isplitr [Hg HO]
    · isplitl [Hat]; · iexact Hat
      isplitl [Htk]; · iexact Htk
      isplitl [Hcr]; · iexact Hcr
      isplitl [Hsl]; · iexact Hsl
      isplitl [Hscr]; · iexact Hscr
      isplitl [Harg] <;> iassumption
    isplitl [Hg]; · iexact Hg
    unfold Ow; iexists W; iexact HO
  iintro ⟨HP, Hg, HO⟩
  unfold bodyPost Dat.owesAt Pipeline.owesWithin Ow
  icases HO with ⟨%W', HO⟩
  isplitl [HP]; · iexact HP
  isplitl [HO]
  · iexists W'; isplitr; · ipureintro; exact fun _ _ => Or.inl trivial
    iexact HO
  iapply (gam_out m d); iexact Hg

theorem body_obligation : BodyObligation (dats (F := F) m 0 d) (defs₀ (F := F)) 𝒱₀ () Set.univ := fun t => by
  rw [fin_N0 t]
  rw [bigSep_W0, bigSep_W0]
  simp only [owns_whole_eq]
  have e : defs₀ (F := F) .tc cfg0.body (cfg0.bodyArgs t0_0 (cfg0.slots t0_0)) = (bodyAt0 t0_0 : Pg F) := rfl
  rw [e]
  rw [phi_start, phi_end, after_eq]
  have h := body_all m d
  unfold bodyPre bodyPost at h
  refine BIBase.Entails.trans (BIBase.Entails.of_eq ?_) (BIBase.Entails.trans h (BIBase.Entails.of_eq ?_))
  · congr 1
  · congr 1

/-! ## The launch's other conditions -/

theorem share_eq (w : Fin cfg0.W) : (dats m 0 d).share w = fullShare := by unfold Dat.share; split <;> rfl
theorem L_of_ne (g : GSem nD τ sig) (h : g.1.2 ≠ .tc) : L g = ∅ := if_neg h

theorem start_intro : iprop(Pipeline.unscopedRestP Pipeline.Prefetch.none cfg0.spec d (fun b => m ((d : Thread nD τ).loc b)) ∗ levAts L lv
    ∗ Pipeline.launchCred O₀ d ∗ prngReg d (ρ d) ∗ G' m d) ⊢ |={Set.univ}=> iprop(start m d ∗ emp) := by
  rw [Pipeline.unscopedRestP_none, unscopedRest0_eq]
  iintro ⟨⟨Harg, Hout⟩, Hlev, Hcr, -, HG⟩
  ihave Hc := (creds_intro (F := F) d) $$ Hcr
  imodintro
  unfold start argPts outPts
  isplitl
  · isplitl [HG]; · iexact HG
    isplitl [Hc]; · iexact Hc
    isplitl [Hlev]; · iexact Hlev
    isplitl [Harg]; · iexact Harg
    iexists _; iexact Hout
  · iempintro

theorem phi0_intro : iprop(start m d ∗ Pipeline.prefHeld Pipeline.Prefetch.none d (fun _ => fullShare.right) (fun k => k.elim0) ∗ Pipeline.scopedRest cfg0.spec d)
    ⊢ (dats m 0 d).Φ 0 := by
  rw [show (dats m 0 d).Φ 0 = Φ₀ m d from rfl, scopedRest0_eq]
  unfold Φ₀ scr
  iintro ⟨Hs, -, Hr⟩
  isplitl [Hs]; · iexact Hs
  iexact Hr

/-- What is left outside the kernel's own memory. -/
def left : sProp 𝕄 := iprop(unscopedSems0 d ∗ argPts m d ∗ outPts d (OUT m d))

theorem phi1_exit : (dats m 0 d).Φ (Fin.last cfg0.N) ⊢ iprop(left m d ∗ Pipeline.ownSems0 osem d ∗ Pipeline.scopedRest cfg0.spec d) := by
  rw [show (dats m 0 d).Φ (Fin.last cfg0.N) = Post m d from rfl, scopedRest0_eq]
  unfold Post left
  iintro ⟨Hz, Hsl, Hscr, Harg, Hout⟩
  ihave H := (sems_out (F := F) d) $$ [Hz Hsl]
  · isplitl [Hz] <;> iassumption
  icases H with ⟨Hos, Hus⟩
  isplitl [Hus Harg Hout]
  · isplitl [Hus]; · iexact Hus
    isplitl [Harg] <;> iassumption
  isplitl [Hos]; · iexact Hos
  unfold scr; iexact Hscr

theorem waits : (levAts L lv : sProp 𝕄) ⊢ Pipeline.cellsWaits cfgs (dats m) () 0 d :=
  Pipeline.cellsWaits_intro cfgs (dats m) () 0 d fun w s t =>
    mayWait d _ (b := 0) (by fin_cases w; fin_cases s; decide) (by
      rcases t with ⟨_ | _, ht⟩
      · exact above_O₀ d
      · exact above_zero 0)

/-- What the end is read for. -/
def Fin₁ (s : MemSt nD τ sig (Elt F)) : Prop :=
  (∀ sm : SemLoc sig, sm.isScoped .tc = false → s.sem ((d : Thread nD τ), sm) = 0)
    ∧ s.mem ((d : Thread nD τ).loc main_arg0) = m ((d : Thread nD τ).loc main_arg0) ∧ s.mem ((d : Thread nD τ).loc main_v1) = OUT m d

theorem left_read (s' : Phys nD τ sig (Elt F)) : iprop(left m d ∗ emp ∗ SI s') ⊢ |={Set.univ}=> iprop(⌜Fin₁ m d s'.mem⌝ ∗ SI s') := by
  unfold left argPts outPts
  iintro ⟨⟨Hu, Ha, Ho⟩, -, HSI⟩
  ihave %h1 := (SI_pointsTo_agree (ℓ := (d : Thread nD τ).loc main_arg0)) $$ [Ha HSI]
  · isplitl [HSI] <;> iassumption
  ihave %h2 := (SI_pointsTo_agree (ℓ := (d : Thread nD τ).loc main_v1)) $$ [Ho HSI]
  · isplitl [HSI] <;> iassumption
  imod (Pipeline.unscopedSems0_read (X := unscopedSems0 d) (c := d) fupd_intro s') $$ [Hu HSI] with ⟨%h3, HSI⟩
  · isplitl [Hu] <;> iassumption
  imodintro
  isplitr
  · ipureintro; exact ⟨h3, funext fun i => h1 i (Finset.mem_univ i), funext fun i => h2 i (Finset.mem_univ i)⟩
  iexact HSI

/-! ## The run -/

set_option maxRecDepth 200000 in
/-- From any memory, every semaphore at zero, for any float values: every weakly fair execution ends, with each device's
    result, its two arguments as they were and every semaphore at zero. -/
theorem run_main : θ_run defs (onTc (τ := τ) (main (F := F))) (⟨m, fun _ => 0, ρ⟩ : MemSt nD τ sig (Elt F)) (fun r => (∀ d : Dev nD,
    r.2.mem ((d : Thread nD τ).loc main_v1) = OUT m d
      ∧ r.2.mem ((d : Thread nD τ).loc main_arg0) = m ((d : Thread nD τ).loc main_arg0)
      ∧ r.2.mem ((d : Thread nD τ).loc main_arg1) = m ((d : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ osem_facts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj) (O₀ := O₀) (howed₀ := fun _ => rfl) (howedN := fun _ => rfl)
    (L := L) (lv := lv) (hL := L_of_ne) (hwaits := waits m) (G := G m) (G' := G' m) (u₀ := u₀)
    (hu₀ := by
      unfold u₀
      iintro Hu
      ihave H := (launch_split _ _) $$ Hu
      icases H with ⟨HP, HX⟩
      imod (fund m) $$ HX with HG
      imodintro
      isplitl [HP] <;> iassumption)
    (hglob := glob m) (hA := fun _ _ => rfl) (hpf := fun _ k => k.elim0)
    (X := start m) (Y := left m) (Z := fun _ => iprop(emp)) (hX := start_intro m ρ) (hin := phi0_intro m) (hout := phi1_exit m)
    (QY := Fin₁ m) (hY := left_read m)
    (hQ := fun _ h hs => ⟨fun c => ⟨(h c).2.2.2.2, (h c).2.2.2.1, ((h c).1 0).trans ((dats m 0 c).arrAt_in (0 : Fin 1) rfl _)⟩,
      sem_eq_zero hs fun c => (h c).2.2.1⟩)

end Cert.KernelIdeal.Rs

end
-- ==== Proof.Root.lean ====
/- Facts on the extended reals: dividing by a square root is multiplying by its reciprocal, and the
   argument of the square root is positive. -/
module

public import Idealize.ShloMosaic.PureOps.Ideal
public import Idealize.ShloMosaic.Init

@[expose] public section

noncomputable section

namespace Cert.Norm

open Idealize.ShloMosaic

/-- The word of the row length. -/
theorem word_len : Ideal.ofBits .f32 0x45800000#32 = ((4096 : ℝ) : EReal) := by
  simp [Ideal.ofBits, Ideal.ieee, -EReal.coe_mul]; norm_num

/-- The word of the small constant is a positive rational. -/
theorem word_small : ∃ e : ℝ, 0 < e ∧ Ideal.ofBits .f32 0x358637BD#32 = (e : EReal) := by
  simp [Ideal.ofBits, Ideal.ieee, -EReal.coe_mul]

/-- The word of zero. -/
theorem word_zero : Ideal.ofBits .f32 0x00000000#32 = 0 := by
  simp [Ideal.ofBits, Ideal.ieee, -EReal.coe_mul]

/-- At a positive value, the reciprocal of the root multiplies as the root divides. -/
theorem mul_rsqrt (y t : EReal) (ht : 0 < t) : y * Ideal.rsqrt t = Ideal.div y (Ideal.sqrt t) := by
  induction t with
  | bot => simp at ht
  | top => rw [Ideal.rsqrt_top, Ideal.sqrt_top, Ideal.div, if_neg EReal.top_ne_zero, EReal.inv_top]
  | coe r =>
    have hr : 0 < r := by exact_mod_cast ht
    have hs : Real.sqrt r ≠ 0 := (Real.sqrt_pos.2 hr).ne'
    rw [Ideal.rsqrt_coe, Ideal.sqrt_coe, if_neg hr.le.not_gt, if_neg hr.ne', if_neg hr.le.not_gt, Ideal.div_coe hs, one_div]

/-- A square is not negative. -/
theorem sq_nonneg (x : EReal) : 0 ≤ x * x := by
  rcases le_total 0 x with h | h
  · exact mul_nonneg h h
  · rw [← neg_mul_neg]; exact mul_nonneg (EReal.neg_nonneg.2 h) (EReal.neg_nonneg.2 h)

/-- The mean of squares plus the small constant. -/
def ms (Y : Fin 4096 → EReal) : EReal :=
  Ideal.div (∑ k, Y k * Y k) (Ideal.ofBits .f32 0x45800000#32) + Ideal.ofBits .f32 0x358637BD#32

theorem ms_pos (Y : Fin 4096 → EReal) : 0 < ms Y := by
  obtain ⟨e, he, h⟩ := word_small
  unfold ms
  rw [word_len, h, Ideal.div_coe (by norm_num : (4096 : ℝ) ≠ 0)]
  have h0 : (0 : EReal) < (e : EReal) := by exact_mod_cast he
  have h1 : (0 : EReal) ≤ (∑ k, Y k * Y k) * ((1 / 4096 : ℝ) : EReal) :=
    mul_nonneg (Finset.sum_nonneg fun k _ => sq_nonneg _) (by exact_mod_cast (by norm_num : (0 : ℝ) ≤ 1 / 4096))
  calc (0 : EReal) < (e : EReal) := h0
    _ = 0 + (e : EReal) := (zero_add _).symm
    _ ≤ _ := add_le_add_left h1 _

/-- One entry of a row, normalised and scaled. -/
def entry (Y : Fin 4096 → EReal) (k : Fin 4096) (g : EReal) : EReal := Ideal.div (Y k) (Ideal.sqrt (ms Y)) * g

/-- The same entry with the reciprocal of the root. -/
theorem entry_rsqrt (Y : Fin 4096 → EReal) (k : Fin 4096) (g : EReal) : Y k * Ideal.rsqrt (ms Y) * g = entry Y k g := by
  unfold entry
  rw [mul_rsqrt _ _ (ms_pos Y)]

end Cert.Norm

end
-- ==== Proof.KerVal.lean ====
/-
  The device's result over the reals, entry by entry.
-/
module

public import proofs.«01_k».proof.Proof.Proto
public import proofs.«01_k».proof.Proof.Root
public import Idealize.ShloMosaic.Lib.Pointwise
public import Idealize.ShloMosaic.Lib.ValueLayout

@[expose] public section

set_option maxRecDepth 16384

noncomputable section

namespace Cert.KernelIdeal.Rs

open Idealize.ShloMosaic Idealize.ShloMosaic.TcCoe
open Gen

/-- A chunk's entry at row `a`, column `k`. -/
theorem comp2_apply (v w : S128x4096.Idx → Elt Ideal .f32) (g : S4096.Idx → Elt Ideal .f32) (a : Fin 128) (k : Fin 4096) :
    comp2 (F := Ideal) v (nar w) g (ix2 a k) = Cert.Norm.entry (fun l => (v (ix2 a l) : EReal) + w (ix2 a l)) k (g (ix1 k)) := by
  unfold comp2 nar rms
  pointwise
  exact Cert.Norm.entry_rsqrt (fun l => (v (ix2 a l) : EReal) + w (ix2 a l)) k (g (ix1 k))

/-- The rows of the partial array that chunk `q` of half `y` is. -/
abbrev pRect (y : Fin 2) (q : Fin 32) : Rect S1x8192x4096 := Rect.unit (s := S1x8192x4096) (pO y q) S1x128x4096.size (pO_inb y q)

open Idealize.ShloMosaic.ValueKit in
/-- Row `a` of chunk `q` of half `y` of a device's partial array. -/
theorem PC_apply (m : (ℓ : Loc nD τ sig) → Buf (Elt Ideal) ℓ) (d : Dev nD) (y : Fin 2) (q : Fin 32) (a : Fin 128) (k : Fin 4096) (R : Fin 8192)
    (hR : R.val = 4096 * y.val + (128 * q.val + a.val)) :
    PC m d y q (ix2 a k) = m ((d : Thread nD τ).loc main_arg0) (ix3 0 R k) := by
  unfold PC
  refine congrArg (m ((d : Thread nD τ).loc main_arg0)) (?_ : (pRect y q).emb (Shape.reshapeEquiv squeezes_S1x128x4096_S128x4096.numel_eq (ix2 a k)) = ix3 0 R k)
  have e : Shape.reshapeEquiv squeezes_S1x128x4096_S128x4096.numel_eq (ix2 a k) = ix3 (0 : Fin 1) a k := ValueIdx.reshapeEquiv_ix2_1ab _ a k
  rw [e]
  funext b
  apply Fin.ext
  rw [rect_emb_unit_val]
  fin_cases b
  · rfl
  · show (4096 * y.val + 128 * q.val) + a.val = R.val
    omega
  · show 0 + k.val = k.val
    omega

/-- The partner along the second axis holds the other half's share. -/
theorem yOf_src (d : Dev nD) (q : Fin 32) : yOf (src d q) = yNo d := by revert d q; decide +kernel

/-- A device's place on the second axis, and the other place. -/
theorem places (d : Dev nD) : (yOf d = 0 ∧ yNo d = 1) ∨ (yOf d = 1 ∧ yNo d = 0) := by revert d; decide +kernel

/-- The two ways to name an entry of a chunk. -/
theorem at2_eq (i : Fin 128) (j : Fin 4096) : at2 i j = ix2 i j := by
  funext b
  fin_cases b <;> rfl

/-- A device's place on the second axis of the mesh. -/
theorem lin_one (c : Dev nD) : Layout.meshLin [2, 2] c.val [1] = c.val % 2 := by revert c; decide +kernel

/-- The block of the whole array a device holds, at an entry. -/
theorem block_arg {α : Type} (p : (⟨3, ![2, 8192, 4096]⟩ : Shape).Idx → α) (c : Dev nD) (R : Fin 8192) (k : Fin 4096) :
    Layout.blockN ⟨3, ![1, 8192, 4096]⟩ ⟨3, ![2, 8192, 4096]⟩ (Layout.meshBlock [2, 2] ![[1], [], []] c) p (by decide) (ix3 0 R k) = p (ix3 (yOf c) R k) := by
  rw [Layout.blockN_apply]
  congr 1
  funext b
  apply Fin.ext
  rw [Layout.TilesN.idx_val, Layout.meshBlock_val]
  fin_cases b
  · show Layout.meshLin [2, 2] c.val [1] * 1 + 0 = c.val % 2
    rw [lin_one]; omega
  · show 0 * 8192 + R.val = R.val
    omega
  · show 0 * 4096 + k.val = k.val
    omega

/-- The block of the whole result a device ends with, at an entry. -/
theorem block_res {α : Type} (v : (⟨2, ![8192, 4096]⟩ : Shape).Idx → α) (c : Dev nD) (j : S4096x4096.Idx) (R : Fin 8192) (hR : R.val = 4096 * (yOf c).val + (j 0).val) :
    Layout.blockN ⟨2, ![4096, 4096]⟩ ⟨2, ![8192, 4096]⟩ (Layout.meshBlock [2, 2] ![[1], []] c) v (by decide) j = v (ix2 R (j 1)) := by
  rw [Layout.blockN_apply]
  congr 1
  funext b
  apply Fin.ext
  rw [Layout.TilesN.idx_val, Layout.meshBlock_val]
  fin_cases b
  · show Layout.meshLin [2, 2] c.val [1] * 4096 + (j 0).val = R.val
    rw [lin_one, hR]
    show c.val % 2 * 4096 + (j 0).val = 4096 * (c.val % 2) + (j 0).val
    omega
  · show 0 * 4096 + (j 1).val = (j 1).val
    omega

end Cert.KernelIdeal.Rs

end
-- ==== Proof.RefVal.lean ====
/-
  The reference's result over the reals, entry by entry.
-/
module

public import proofs.«01_k».proof.Proof.Gen.ReferenceIdeal
public import proofs.«01_k».proof.Proof.Gen.ReferenceIdeal.Run
public import proofs.«01_k».proof.Proof.Root
public import Idealize.ShloMosaic.Lib.Pointwise

@[expose] public section

set_option maxRecDepth 16384

noncomputable section

namespace Cert.ReferenceIdeal.Rs

open Idealize.ShloMosaic Idealize.ShloMosaic.TcCoe
open Gen

/-- The sum of the partial arrays. -/
def tot (p : FVec Ideal S2x8192x4096 .f32) : FVec Ideal S8192x4096 .f32 :=
  Host.reduceAdd p (constant S_ .f32 0x00000000#32) reducesTo_S2x8192x4096_S8192x4096_d0 h_S_

/-- The reference's result. -/
def ref (p : FVec Ideal S2x8192x4096 .f32) (g : FVec Ideal S4096 .f32) : FVec Ideal S8192x4096 .f32 :=
  mulf (Host.divf (tot p) (broadcastInDim S8192x4096 ![0, 1] bcast_S8192x1_S8192x4096_0_1 (Host.sqrt (addf (Host.divf
      (broadcastInDim S8192x1 ![0] bcast_S8192_S8192x1_0 (Host.reduceAdd (mulf (tot p) (tot p)) (constant S_ .f32 0x00000000#32) reducesTo_S8192x4096_S8192_d1 h_S_))
      (broadcastInDim S8192x1 ![] bcast_S_S8192x1 (constant S_ .f32 0x45800000#32)))
      (broadcastInDim S8192x1 ![] bcast_S_S8192x1 (constant S_ .f32 0x358637BD#32))))))
    (broadcastInDim S8192x4096 ![0, 1] bcast_S1x4096_S8192x4096_0_1 (broadcastInDim S1x4096 ![1] bcast_S4096_S1x4096_1 g))

/-- The sum at row `a`, column `k`. -/
theorem tot_apply (p : FVec Ideal S2x8192x4096 .f32) (a : Fin 8192) (k : Fin 4096) :
    tot p (ix2 a k) = (p (ix3 0 a k) : EReal) + p (ix3 1 a k) := by
  unfold tot
  pointwise
  exact Fin.sum_univ_two _

/-- The result at row `a`, column `k`. -/
theorem ref_apply (p : FVec Ideal S2x8192x4096 .f32) (g : FVec Ideal S4096 .f32) (a : Fin 8192) (k : Fin 4096) :
    ref p g (ix2 a k) = Cert.Norm.entry (fun l => (p (ix3 0 a l) : EReal) + p (ix3 1 a l)) k (g (ix1 k)) := by
  simp only [← tot_apply]
  unfold ref
  generalize tot p = Y
  pointwise
  rfl

end Cert.ReferenceIdeal.Rs

end
-- ==== Proof.Meet.lean ====
/-
  A device's result is its block of the reference's.
-/
module

public import proofs.«01_k».proof.Proof.KerVal
public import proofs.«01_k».proof.Proof.RefVal

@[expose] public section

set_option maxRecDepth 16384

noncomputable section

namespace Cert.KernelIdeal.Rs

open Idealize.ShloMosaic Idealize.ShloMosaic.TcCoe
open Gen

/-- Entry `(128 q + a, k)` of a device's result: the sum of the two devices' rows, normalised and scaled. -/
theorem OUT_apply (m : (ℓ : Loc nD τ sig) → Buf (Elt Ideal) ℓ) (p : FVec Ideal ReferenceIdeal.S2x8192x4096 .f32) (g : FVec Ideal S4096 .f32)
    (hp : ∀ c : Dev nD, m ((c : Thread nD τ).loc main_arg0)
      = Layout.blockN ⟨3, ![1, 8192, 4096]⟩ ⟨3, ![2, 8192, 4096]⟩ (Layout.meshBlock [2, 2] ![[1], [], []] c) p (by decide))
    (hg : ∀ c : Dev nD, m ((c : Thread nD τ).loc main_arg1) = g)
    (c : Dev nD) (q : Fin 32) (a : Fin 128) (k : Fin 4096) (R : Fin 8192) (hR : R.val = 4096 * (yOf c).val + (128 * q.val + a.val)) :
    comp2 (F := Ideal) (PC m c (yOf c) q) (nar (PC m (src c q) (yOf c) q)) (GM m c) (ix2 a k)
      = ReferenceIdeal.Rs.ref p g (ix2 R k) := by
  have hP : ∀ d : Dev nD, ∀ l, PC m d (yOf c) q (ix2 a l) = p (ix3 (yOf d) R l) := fun d l => by
    rw [PC_apply m d (yOf c) q a l R hR, hp d]
    exact block_arg p d R l
  rw [comp2_apply, ReferenceIdeal.Rs.ref_apply]
  unfold GM
  rw [hg c]
  simp only [hP, yOf_src]
  refine congrArg (fun Y => Cert.Norm.entry Y k _) (funext fun l => ?_)
  rcases places c with ⟨h, h'⟩ | ⟨h, h'⟩
  · rw [h, h']
  · rw [h, h']
    exact add_comm _ _

/-- A device's result is its block of the reference's. -/
theorem OUT_block (m : (ℓ : Loc nD τ sig) → Buf (Elt Ideal) ℓ) (p : FVec Ideal ReferenceIdeal.S2x8192x4096 .f32) (g : FVec Ideal S4096 .f32)
    (hp : ∀ c : Dev nD, m ((c : Thread nD τ).loc main_arg0)
      = Layout.blockN ⟨3, ![1, 8192, 4096]⟩ ⟨3, ![2, 8192, 4096]⟩ (Layout.meshBlock [2, 2] ![[1], [], []] c) p (by decide))
    (hg : ∀ c : Dev nD, m ((c : Thread nD τ).loc main_arg1) = g) (c : Dev nD) :
    OUT m c = Layout.blockN ⟨2, ![4096, 4096]⟩ ⟨2, ![8192, 4096]⟩ (Layout.meshBlock [2, 2] ![[1], []] c) (ReferenceIdeal.Rs.ref p g) (by decide) := by
  funext j
  have h0 : (j 0).val < 4096 := (j 0).isLt
  have hy : (yOf c).val < 2 := (yOf c).isLt
  rw [block_res _ c j ⟨4096 * (yOf c).val + (j 0).val, by omega⟩ rfl]
  unfold OUT asm32
  refine Eq.trans (congrArg (comp2 _ _ _) (at2_eq _ _)) (OUT_apply m p g hp hg c _ _ _ _ ?_)
  dsimp only
  omega

end Cert.KernelIdeal.Rs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Drive
public import proofs.«01_k».proof.Proof.Meet
public import Idealize.ShloMosaic.Adequacy
public import Idealize.ShloMosaic.Init

@[expose] public section

noncomputable section

namespace Cert.Proof

open Idealize.ShloMosaic Idealize.SL.Sem Cert.Kernel

set_option maxRecDepth 100000 in
/-- The two readings of the kernel have the same body table: each label runs the same text. -/
theorem bodies_eq : Cert.Kernel.defs₀ (F := Bits) = Cert.KernelIdeal.defs₀ (F := Bits) := by
  unfold Cert.Kernel.defs₀ Cert.KernelIdeal.defs₀
  congr 1
  funext l a
  match l, a with
  | 0, (_, _) => rfl

set_option maxRecDepth 100000 in
/-- The same for the whole table, with the pipeline around the bodies. -/
theorem table_eq : Cert.Kernel.defs (F := Bits) = Cert.KernelIdeal.defs (F := Bits) := by
  unfold Cert.Kernel.defs
  rw [bodies_eq]
  rfl

set_option maxRecDepth 100000 in
/-- The kernel at the bits: every run ends, faults nowhere, leaves its arguments and its counters. -/
theorem frame_kernel : Cert.quiescent_Kernel := by
  intro m ρ _
  rw [table_eq]
  exact (θ_run Cert.KernelIdeal.defs _ _).mono (fun _ h => ⟨fun c => (h.1 c).2, h.2⟩) (Cert.KernelIdeal.Rs.run_main (F := Bits) m ρ)

/-- The kernel over the reals: the same. -/
theorem frame_ideal : Cert.quiescent_KernelIdeal := fun m ρ _ =>
  (θ_run Cert.KernelIdeal.defs _ _).mono (fun _ h => ⟨fun c => (h.1 c).2, h.2⟩) (Cert.KernelIdeal.Rs.run_main (F := Ideal) m ρ)

/-- The reference ends and leaves its arguments; it has no counter to move. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the reals each device's result is its block of the reference's result. -/
theorem algebraic : Cert.algebraic_KernelIdeal_ReferenceIdeal := by
  intro m ρ m' ρ' _ hagree
  refine ⟨Cert.ReferenceIdeal.Rs.ref
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ h c => ⟨(h.1 c).1.trans ?_, (h.1 c).2⟩)
      (Cert.KernelIdeal.Rs.run_main (F := Ideal) m ρ)
    exact Cert.KernelIdeal.Rs.OUT_block m _ _ (fun d => (hagree d).1) (fun d => (hagree d).2) c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts, frame_kernel, frame_ideal, frame_reference, trivial, algebraic⟩

end Cert.Proof

end

end
